-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x16x4096x64 : Shape := ⟨4, ![4, 16, 4096, 64]⟩
abbrev S9 : Shape := ⟨1, ![9]⟩
abbrev S9x128 : Shape := ⟨2, ![9, 128]⟩
abbrev S_ : Shape := ⟨0, ![]⟩

class Facts : Prop where
  bcast_S_S4x16x4096x64 : S_.BroadcastsInDim S4x16x4096x64 (![] : Fin 0 → Fin S4x16x4096x64.rank)
  reducesTo_S4x16x4096x64_S_d0_1_2_3 : S4x16x4096x64.ReducesTo [0, 1, 2, 3] S_
  h_S_ : 0 < S_.numel
  bcast_S_S9x128 : S_.BroadcastsInDim S9x128 (![] : Fin 0 → Fin S9x128.rank)
  reducesTo_S9x128_S_d0_1 : S9x128.ReducesTo [0, 1] S_

variable [Facts]

def fn_part1 {F : FTy → Type} [FloatOps F] (main_arg6 : FVec F S9x128 .f32) (main_arg7 : FVec F S9x128 .f32) (main_v13 : IVec S_ 1) (main_v16 : IVec S4x16x4096x64 1) : IVec S_ 1 :=
  let main_c_5 : IVec S_ 1 := constantI S_ 1 1#1
  let main_v17 : IVec S_ 1 := (fun x v => Host.reduce IntOp.andi x v reducesTo_S4x16x4096x64_S_d0_1_2_3 h_S_) main_v16 main_c_5
  let main_v18 : IVec S_ 1 := andi main_v13 main_v17
  let main_v19 : FVec F S9x128 .f32 := Host.absf main_arg6
  let main_cst_6 : FVec F S_ .f32 := constant S_ .f32 0x7F800000#32
  let main_v20 : FVec F S9x128 .f32 := broadcastInDim S9x128 ![] bcast_S_S9x128 main_cst_6
  let main_v21 : IVec S9x128 1 := cmpf .olt main_v19 main_v20
  let main_c_7 : IVec S_ 1 := constantI S_ 1 1#1
  let main_v22 : IVec S_ 1 := (fun x v => Host.reduce IntOp.andi x v reducesTo_S9x128_S_d0_1 h_S_) main_v21 main_c_7
  let main_v23 : IVec S_ 1 := andi main_v18 main_v22
  let main_v24 : FVec F S9x128 .f32 := Host.absf main_arg7
  let main_cst_8 : FVec F S_ .f32 := constant S_ .f32 0x7F800000#32
  let main_v25 : FVec F S9x128 .f32 := broadcastInDim S9x128 ![] bcast_S_S9x128 main_cst_8
  let main_v26 : IVec S9x128 1 := cmpf .olt main_v24 main_v25
  let main_c_9 : IVec S_ 1 := constantI S_ 1 1#1
  let main_v27 : IVec S_ 1 := (fun x v => Host.reduce IntOp.andi x v reducesTo_S9x128_S_d0_1 h_S_) main_v26 main_c_9
  let main_v28 : IVec S_ 1 := andi main_v23 main_v27
  main_v28

def fn {F : FTy → Type} [FloatOps F] (main_arg0 : FVec F S4x16x4096x64 .f32) (main_arg1 : FVec F S4x16x4096x64 .f32) (main_arg2 : FVec F S4x16x4096x64 .f32) (main_arg3 : FVec F S4x16x4096x64 .f32) (main_arg4 : FVec F S4x16x4096x64 .f32) (main_arg5 : FVec F S9 .f32) (main_arg6 : FVec F S9x128 .f32) (main_arg7 : FVec F S9x128 .f32) : IVec S_ 1 :=
  let main_v0 : FVec F S4x16x4096x64 .f32 := Host.absf main_arg0
  let main_cst : FVec F S_ .f32 := constant S_ .f32 0x7F800000#32
  let main_v1 : FVec F S4x16x4096x64 .f32 := broadcastInDim S4x16x4096x64 ![] bcast_S_S4x16x4096x64 main_cst
  let main_v2 : IVec S4x16x4096x64 1 := cmpf .olt main_v0 main_v1
  let main_c : IVec S_ 1 := constantI S_ 1 1#1
  let main_v3 : IVec S_ 1 := (fun x v => Host.reduce IntOp.andi x v reducesTo_S4x16x4096x64_S_d0_1_2_3 h_S_) main_v2 main_c
  let main_v4 : FVec F S4x16x4096x64 .f32 := Host.absf main_arg1
  let main_cst_0 : FVec F S_ .f32 := constant S_ .f32 0x7F800000#32
  let main_v5 : FVec F S4x16x4096x64 .f32 := broadcastInDim S4x16x4096x64 ![] bcast_S_S4x16x4096x64 main_cst_0
  let main_v6 : IVec S4x16x4096x64 1 := cmpf .olt main_v4 main_v5
  let main_c_1 : IVec S_ 1 := constantI S_ 1 1#1
  let main_v7 : IVec S_ 1 := (fun x v => Host.reduce IntOp.andi x v reducesTo_S4x16x4096x64_S_d0_1_2_3 h_S_) main_v6 main_c_1
  let main_v8 : IVec S_ 1 := andi main_v3 main_v7
  let main_v9 : FVec F S4x16x4096x64 .f32 := Host.absf main_arg2
  let main_cst_2 : FVec F S_ .f32 := constant S_ .f32 0x7F800000#32
  let main_v10 : FVec F S4x16x4096x64 .f32 := broadcastInDim S4x16x4096x64 ![] bcast_S_S4x16x4096x64 main_cst_2
  let main_v11 : IVec S4x16x4096x64 1 := cmpf .olt main_v9 main_v10
  let main_c_3 : IVec S_ 1 := constantI S_ 1 1#1
  let main_v12 : IVec S_ 1 := (fun x v => Host.reduce IntOp.andi x v reducesTo_S4x16x4096x64_S_d0_1_2_3 h_S_) main_v11 main_c_3
  let main_v13 : IVec S_ 1 := andi main_v8 main_v12
  let main_v14 : FVec F S4x16x4096x64 .f32 := Host.absf main_arg3
  let main_cst_4 : FVec F S_ .f32 := constant S_ .f32 0x7F800000#32
  let main_v15 : FVec F S4x16x4096x64 .f32 := broadcastInDim S4x16x4096x64 ![] bcast_S_S4x16x4096x64 main_cst_4
  let main_v16 : IVec S4x16x4096x64 1 := cmpf .olt main_v14 main_v15
  fn_part1 (F := F) main_arg6 main_arg7 main_v13 main_v16
-- ==== Kernel.lean ====
abbrev S4x16x4096x64 : Shape := ⟨4, ![4, 16, 4096, 64]⟩
abbrev S9 : Shape := ⟨1, ![9]⟩
abbrev S9x128 : Shape := ⟨2, ![9, 128]⟩
abbrev S4x16x64x4096 : Shape := ⟨4, ![4, 16, 64, 4096]⟩
abbrev S1x9 : Shape := ⟨2, ![1, 9]⟩
abbrev S1x2x64x4096 : Shape := ⟨4, ![1, 2, 64, 4096]⟩
abbrev S1x1x64x4096 : Shape := ⟨4, ![1, 1, 64, 4096]⟩
abbrev S64x4096 : Shape := ⟨2, ![64, 4096]⟩
abbrev S9x64 : Shape := ⟨2, ![9, 64]⟩
abbrev S9x4096 : Shape := ⟨2, ![9, 4096]⟩
abbrev S4096 : Shape := ⟨1, ![4096]⟩
abbrev S1x4096 : Shape := ⟨2, ![1, 4096]⟩
abbrev S1x1 : Shape := ⟨2, ![1, 1]⟩
abbrev S64x64 : Shape := ⟨2, ![64, 64]⟩

abbrev nBuf : Space → Nat
  | .hbm => 16
  | .vmem => 14
  | .smem => 1
  | _ => 0

abbrev bufTy : (tb : Table) → Fin (tcTables nBuf tb) → BufTy
  | .hbm, ⟨0, _⟩ => ⟨S4x16x4096x64, .f32⟩
  | .hbm, ⟨1, _⟩ => ⟨S4x16x4096x64, .f32⟩
  | .hbm, ⟨2, _⟩ => ⟨S4x16x4096x64, .f32⟩
  | .hbm, ⟨3, _⟩ => ⟨S4x16x4096x64, .f32⟩
  | .hbm, ⟨4, _⟩ => ⟨S4x16x4096x64, .f32⟩
  | .hbm, ⟨5, _⟩ => ⟨S9, .f32⟩
  | .hbm, ⟨6, _⟩ => ⟨S9x128, .f32⟩
  | .hbm, ⟨7, _⟩ => ⟨S9x128, .f32⟩
  | .hbm, ⟨8, _⟩ => ⟨S4x16x64x4096, .f32⟩
  | .hbm, ⟨9, _⟩ => ⟨S4x16x64x4096, .f32⟩
  | .hbm, ⟨10, _⟩ => ⟨S4x16x64x4096, .f32⟩
  | .hbm, ⟨11, _⟩ => ⟨S4x16x64x4096, .f32⟩
  | .hbm, ⟨12, _⟩ => ⟨S4x16x64x4096, .f32⟩
  | .hbm, ⟨13, _⟩ => ⟨S1x9, .f32⟩
  | .hbm, ⟨14, _⟩ => ⟨S4x16x64x4096, .f32⟩
  | .hbm, ⟨15, _⟩ => ⟨S4x16x4096x64, .f32⟩
  | .local _ .vmem, ⟨0, _⟩ => ⟨S9x128, .f32⟩
  | .local _ .vmem, ⟨1, _⟩ => ⟨S9x128, .f32⟩
  | .local _ .vmem, ⟨2, _⟩ => ⟨S1x2x64x4096, .f32⟩
  | .local _ .vmem, ⟨3, _⟩ => ⟨S1x2x64x4096, .f32⟩
  | .local _ .vmem, ⟨4, _⟩ => ⟨S1x2x64x4096, .f32⟩
  | .local _ .vmem, ⟨5, _⟩ => ⟨S1x2x64x4096, .f32⟩
  | .local _ .vmem, ⟨6, _⟩ => ⟨S1x2x64x4096, .f32⟩
  | .local _ .vmem, ⟨7, _⟩ => ⟨S1x2x64x4096, .f32⟩
  | .local _ .vmem, ⟨8, _⟩ => ⟨S1x2x64x4096, .f32⟩
  | .local _ .vmem, ⟨9, _⟩ => ⟨S1x2x64x4096, .f32⟩
  | .local _ .vmem, ⟨10, _⟩ => ⟨S1x2x64x4096, .f32⟩
  | .local _ .vmem, ⟨11, _⟩ => ⟨S1x2x64x4096, .f32⟩
  | .local _ .vmem, ⟨12, _⟩ => ⟨S1x2x64x4096, .f32⟩
  | .local _ .vmem, ⟨13, _⟩ => ⟨S1x2x64x4096, .f32⟩
  | .local _ .smem, ⟨0, _⟩ => ⟨S1x9, .f32⟩
  | _, _ => ⟨S4x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_4 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_5 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_6 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_7 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 1 → Memref sig .tc .smem S1x9 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S9x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4x16x4096x64 : Shape := ⟨4, ![4, 16, 4096, 64]⟩
abbrev S9 : Shape := ⟨1, ![9]⟩
abbrev S9x128 : Shape := ⟨2, ![9, 128]⟩
abbrev S4x16x4096x128 : Shape := ⟨4, ![4, 16, 4096, 128]⟩
abbrev S4x16x4096x9 : Shape := ⟨4, ![4, 16, 4096, 9]⟩
abbrev S_ : Shape := ⟨0, ![]⟩
abbrev S4x16x4096 : Shape := ⟨3, ![4, 16, 4096]⟩
abbrev S4x16x4096x1 : Shape := ⟨4, ![4, 16, 4096, 1]⟩
abbrev S1x1x1x9 : Shape := ⟨4, ![1, 1, 1, 9]⟩
abbrev S4x16x64x64 : Shape := ⟨4, ![4, 16, 64, 64]⟩

abbrev nBuf : Space → Nat
  | .hbm => 86
  | .vmem => 0
  | .smem => 0
  | _ => 0

abbrev bufTy : (tb : Table) → Fin (tcTables nBuf tb) → BufTy
  | .hbm, ⟨0, _⟩ => ⟨S4x16x4096x64, .f32⟩
  | .hbm, ⟨1, _⟩ => ⟨S4x16x4096x64, .f32⟩
  | .hbm, ⟨2, _⟩ => ⟨S4x16x4096x64, .f32⟩
  | .hbm, ⟨3, _⟩ => ⟨S4x16x4096x64, .f32⟩
  | .hbm, ⟨4, _⟩ => ⟨S4x16x4096x64, .f32⟩
  | .hbm, ⟨5, _⟩ => ⟨S9, .f32⟩
  | .hbm, ⟨6, _⟩ => ⟨S9x128, .f32⟩
  | .hbm, ⟨7, _⟩ => ⟨S9x128, .f32⟩
  | .hbm, ⟨8, _⟩ => ⟨S4x16x4096x128, .f32⟩
  | .hbm, ⟨9, _⟩ => ⟨S4x16x4096x128, .f32⟩
  | .hbm, ⟨10, _⟩ => ⟨S4x16x4096x9, .f32⟩
  | .hbm, ⟨11, _⟩ => ⟨S4x16x4096x9, .f32⟩
  | .hbm, ⟨12, _⟩ => ⟨S4x16x4096x9, .i32⟩
  | .hbm, ⟨13, _⟩ => ⟨S_, .f32⟩
  | .hbm, ⟨14, _⟩ => ⟨S_, .i32⟩
  | .hbm, ⟨15, _⟩ => ⟨S4x16x4096, .f32⟩
  | .hbm, ⟨16, _⟩ => ⟨S4x16x4096, .i32⟩
  | .hbm, ⟨17, _⟩ => ⟨S4x16x4096x1, .i32⟩
  | .hbm, ⟨18, _⟩ => ⟨S1x1x1x9, .i32⟩
  | .hbm, ⟨19, _⟩ => ⟨S4x16x4096x9, .i32⟩
  | .hbm, ⟨20, _⟩ => ⟨S4x16x4096x9, .i32⟩
  | .hbm, ⟨21, _⟩ => ⟨S4x16x4096x9, .i1⟩
  | .hbm, ⟨22, _⟩ => ⟨S4x16x4096x9, .f32⟩
  | .hbm, ⟨23, _⟩ => ⟨S_, .f32⟩
  | .hbm, ⟨24, _⟩ => ⟨S4x16x4096, .f32⟩
  | .hbm, ⟨25, _⟩ => ⟨S_, .f32⟩
  | .hbm, ⟨26, _⟩ => ⟨S4x16x4096, .f32⟩
  | .hbm, ⟨27, _⟩ => ⟨S4x16x4096, .f32⟩
  | .hbm, ⟨28, _⟩ => ⟨S4x16x4096x1, .f32⟩
  | .hbm, ⟨29, _⟩ => ⟨S4x16x4096x9, .f32⟩
  | .hbm, ⟨30, _⟩ => ⟨S4x16x4096x9, .f32⟩
  | .hbm, ⟨31, _⟩ => ⟨S4x16x4096x9, .f32⟩
  | .hbm, ⟨32, _⟩ => ⟨S_, .f32⟩
  | .hbm, ⟨33, _⟩ => ⟨S4x16x4096, .f32⟩
  | .hbm, ⟨34, _⟩ => ⟨S4x16x4096x1, .f32⟩
  | .hbm, ⟨35, _⟩ => ⟨S4x16x4096x9, .f32⟩
  | .hbm, ⟨36, _⟩ => ⟨S4x16x4096x9, .f32⟩
  | .hbm, ⟨37, _⟩ => ⟨S4x16x4096x9, .f32⟩
  | .hbm, ⟨38, _⟩ => ⟨S4x16x4096x9, .f32⟩
  | .hbm, ⟨39, _⟩ => ⟨S1x1x1x9, .f32⟩
  | .hbm, ⟨40, _⟩ => ⟨S4x16x4096x9, .f32⟩
  | .hbm, ⟨41, _⟩ => ⟨S4x16x4096x9, .f32⟩
  | .hbm, ⟨42, _⟩ => ⟨S_, .f32⟩
  | .hbm, ⟨43, _⟩ => ⟨S4x16x4096, .f32⟩
  | .hbm, ⟨44, _⟩ => ⟨S4x16x4096x1, .f32⟩
  | .hbm, ⟨45, _⟩ => ⟨S4x16x4096x9, .i32⟩
  | .hbm, ⟨46, _⟩ => ⟨S_, .f32⟩
  | .hbm, ⟨47, _⟩ => ⟨S_, .i32⟩
  | .hbm, ⟨48, _⟩ => ⟨S4x16x4096, .f32⟩
  | .hbm, ⟨49, _⟩ => ⟨S4x16x4096, .i32⟩
  | .hbm, ⟨50, _⟩ => ⟨S4x16x4096x1, .i32⟩
  | .hbm, ⟨51, _⟩ => ⟨S1x1x1x9, .i32⟩
  | .hbm, ⟨52, _⟩ => ⟨S4x16x4096x9, .i32⟩
  | .hbm, ⟨53, _⟩ => ⟨S4x16x4096x9, .i32⟩
  | .hbm, ⟨54, _⟩ => ⟨S4x16x4096x9, .i1⟩
  | .hbm, ⟨55, _⟩ => ⟨S4x16x4096x9, .f32⟩
  | .hbm, ⟨56, _⟩ => ⟨S_, .f32⟩
  | .hbm, ⟨57, _⟩ => ⟨S4x16x4096, .f32⟩
  | .hbm, ⟨58, _⟩ => ⟨S_, .f32⟩
  | .hbm, ⟨59, _⟩ => ⟨S4x16x4096, .f32⟩
  | .hbm, ⟨60, _⟩ => ⟨S4x16x4096, .f32⟩
  | .hbm, ⟨61, _⟩ => ⟨S4x16x4096x1, .f32⟩
  | .hbm, ⟨62, _⟩ => ⟨S4x16x4096x9, .f32⟩
  | .hbm, ⟨63, _⟩ => ⟨S4x16x4096x9, .f32⟩
  | .hbm, ⟨64, _⟩ => ⟨S4x16x4096x9, .f32⟩
  | .hbm, ⟨65, _⟩ => ⟨S_, .f32⟩
  | .hbm, ⟨66, _⟩ => ⟨S4x16x4096, .f32⟩
  | .hbm, ⟨67, _⟩ => ⟨S4x16x4096x1, .f32⟩
  | .hbm, ⟨68, _⟩ => ⟨S4x16x4096x9, .f32⟩
  | .hbm, ⟨69, _⟩ => ⟨S4x16x4096x9, .f32⟩
  | .hbm, ⟨70, _⟩ => ⟨S4x16x4096x9, .f32⟩
  | .hbm, ⟨71, _⟩ => ⟨S4x16x4096x9, .f32⟩
  | .hbm, ⟨72, _⟩ => ⟨S1x1x1x9, .f32⟩
  | .hbm, ⟨73, _⟩ => ⟨S4x16x4096x9, .f32⟩
  | .hbm, ⟨74, _⟩ => ⟨S4x16x4096x9, .f32⟩
  | .hbm, ⟨75, _⟩ => ⟨S_, .f32⟩
  | .hbm, ⟨76, _⟩ => ⟨S4x16x4096, .f32⟩
  | .hbm, ⟨77, _⟩ => ⟨S4x16x4096x1, .f32⟩
  | .hbm, ⟨78, _⟩ => ⟨S4x16x4096x64, .f32⟩
  | .hbm, ⟨79, _⟩ => ⟨S4x16x4096x64, .f32⟩
  | .hbm, ⟨80, _⟩ => ⟨S4x16x4096x64, .f32⟩
  | .hbm, ⟨81, _⟩ => ⟨S4x16x4096x64, .f32⟩
  | .hbm, ⟨82, _⟩ => ⟨S4x16x4096x64, .f32⟩
  | .hbm, ⟨83, _⟩ => ⟨S4x16x4096x64, .f32⟩
  | .hbm, ⟨84, _⟩ => ⟨S4x16x64x64, .f32⟩
  | .hbm, ⟨85, _⟩ => ⟨S4x16x4096x64, .f32⟩
  | _, _ => ⟨S4x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_cst : Ref sig .tc := ⟨.hbm, 13, rfl⟩
abbrev main_call0_c : Ref sig .tc := ⟨.hbm, 14, rfl⟩
abbrev main_call0_v1_0 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_call2_v0 : Ref sig .tc := ⟨.hbm, 45, rfl⟩
abbrev main_call2_cst : Ref sig .tc := ⟨.hbm, 46, rfl⟩
abbrev main_call2_c : Ref sig .tc := ⟨.hbm, 47, rfl⟩
abbrev main_call2_v1_0 : Ref sig .tc := ⟨.hbm, 48, rfl⟩
abbrev main_v24 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_v25 : Ref sig .tc := ⟨.hbm, 55, rfl⟩
abbrev main_cst_3 : Ref sig .tc := ⟨.hbm, 56, rfl⟩
abbrev main_v26 : Ref sig .tc := ⟨.hbm, 57, rfl⟩
abbrev main_cst_4 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_5 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_6 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩

abbrev nD : Nat := 1
abbrev τ : Topo := Topo.v7x

variable {F : FTy → Type} [FloatOps F]
-- ==== Proof.Pick.lean ====
/-
  THE FIRST LARGEST OF NINE NUMBERS, found in two ways. The kernel takes the largest score by a fold of `max`, replaces
  each score by its row number where it equals the largest and by 9 elsewhere, and takes the least of these words. The
  reference folds a comparison over (score, row number) pairs. Both find the first row that holds the largest score
  (`IsFirst`): `word_eq` for the kernel's way, `foldl_eq` for the reference's.
-/
module

public import proofs.«01_k».proof.ReferenceIdeal
public import Idealize.ShloMosaic.Lib.IdealHost
public import Idealize.ShloMosaic.Lib.Affine
public import Idealize.ShloMosaic.PureOps.Ideal.Laws

@[expose] public section

noncomputable section

namespace Cert.Pick

open Idealize.ShloMosaic

/-- Row `n` holds the largest of the nine numbers, and no row before it does. -/
def IsFirst (f : Fin 9 → EReal) (n : Fin 9) : Prop := ∀ i, f i ≤ f n ∧ (f i = f n → n ≤ i)

/-- Nine numbers have a first largest one. -/
theorem exists_isFirst (f : Fin 9 → EReal) : ∃ n, IsFirst f n := by
  obtain ⟨k, -, hk⟩ := Finset.exists_max_image Finset.univ f ⟨0, Finset.mem_univ _⟩
  obtain ⟨n, hn, hmin⟩ := Finset.exists_min_image (Finset.univ.filter fun i => f i = f k) id
    ⟨k, Finset.mem_filter.2 ⟨Finset.mem_univ _, rfl⟩⟩
  have e : f n = f k := (Finset.mem_filter.1 hn).2
  exact ⟨n, fun i => ⟨e ▸ hk i (Finset.mem_univ _),
    fun h => hmin i (Finset.mem_filter.2 ⟨Finset.mem_univ _, h.trans e⟩)⟩⟩

/-- The pattern of minus infinity denotes the least extended real. -/
theorem bits_bot : Ideal.ofBits .f32 0xFF800000#32 = ⊥ := by simp [Ideal.ofBits, Ideal.ieee]

/-- The pattern of infinity denotes the largest extended real. -/
theorem bits_top : Ideal.ofBits .f32 0x7F800000#32 = ⊤ := by simp [Ideal.ofBits, Ideal.ieee]

/-- The fold of `max` over the nine numbers is the first largest one. -/
theorem fold_max_eq {f : Fin 9 → EReal} {n : Fin 9} (h : IsFirst f n) :
    Finset.univ.fold max (⊥ : EReal) f = f n :=
  le_antisymm (Finset.fold_max_le _ |>.2 ⟨bot_le, fun i _ => (h i).1⟩)
    (Finset.le_fold_max _ |>.2 (.inr ⟨n, Finset.mem_univ _, le_rfl⟩))

/-- The lesser of two words, as integers. -/
theorem toInt_minsi (x y : BitVec 32) : (IntOp.minsi x y).toInt = min x.toInt y.toInt := by
  unfold IntOp.minsi
  by_cases h : x.toInt < y.toInt
  · rw [if_pos (BitVec.slt_iff_toInt_lt.2 h), min_eq_left h.le]
  · rw [if_neg (fun e => h (BitVec.slt_iff_toInt_lt.1 e)), min_eq_right (not_lt.1 h)]

/-- The fold of the lesser word over the nine rows is the word of row `n`, when no other is less. -/
theorem fold_minsi_eq [Std.Commutative (IntOp.minsi (w := 32))] [Std.Associative (IntOp.minsi (w := 32))]
    (init : BitVec 32) (g : Fin 9 → BitVec 32) (n : Fin 9) (hi : (g n).toInt ≤ init.toInt)
    (h : ∀ i, (g n).toInt ≤ (g i).toInt) : Finset.univ.fold IntOp.minsi init g = g n := by
  apply BitVec.eq_of_toInt_eq
  rw [← Finset.fold_hom (op := IntOp.minsi) (op' := min) (m := BitVec.toInt) toInt_minsi]
  exact le_antisymm (Finset.fold_min_le _ |>.2 (.inr ⟨n, Finset.mem_univ _, le_rfl⟩))
    (Finset.le_fold_min _ |>.2 ⟨hi, fun i _ => h i⟩)

/-- A row number as a word, as an integer. -/
theorem toInt_row (n : Fin 9) : (BitVec.ofNat 32 n.val).toInt = n.val := by revert n; decide

/-- The kernel's way: the least of the row numbers of the rows that hold the largest number is the first such row. -/
theorem word_eq [Std.Commutative (IntOp.minsi (w := 32))] [Std.Associative (IntOp.minsi (w := 32))]
    {f : Fin 9 → EReal} {n : Fin 9} (h : IsFirst f n) (g : Fin 9 → BitVec 32)
    (hg : ∀ i, g i = if f i = f n then BitVec.ofNat 32 i.val else 9#32) :
    Finset.univ.fold IntOp.minsi 2147483647#32 g = BitVec.ofNat 32 n.val := by
  have e : g n = BitVec.ofNat 32 n.val := by rw [hg, if_pos rfl]
  have h9 : (9#32).toInt = 9 := by decide
  rw [fold_minsi_eq _ g n, e]
  · rw [e, toInt_row]
    have : (2147483647#32).toInt = 2147483647 := by decide
    omega
  · intro i
    rw [e, hg, toInt_row]
    by_cases hi : f i = f n
    · rw [if_pos hi, toInt_row]
      exact_mod_cast (h i).2 hi
    · rw [if_neg hi, h9]
      have := n.isLt
      omega

/-! ## The reference's way -/

/-- A pair is at least another: its value is larger, or the same and its index no later. -/
def Beats (p q : EReal × BitVec 32) : Prop := q.1 < p.1 ∨ (q.1 = p.1 ∧ p.2.toInt ≤ q.2.toInt)

theorem Beats.refl (p : EReal × BitVec 32) : Beats p p := .inr ⟨rfl, le_rfl⟩

theorem Beats.trans {p q r : EReal × BitVec 32} (h : Beats p q) (k : Beats q r) : Beats p r := by
  unfold Beats at *
  rcases h with h | ⟨h, h'⟩ <;> rcases k with k | ⟨k, k'⟩
  · exact .inl (k.trans h)
  · exact .inl (k ▸ h)
  · exact .inl (h ▸ k)
  · exact .inr ⟨k.trans h, h'.trans k'⟩

/-- The reference's comparison of two pairs, as a choice. -/
theorem reducer_eq (a b : EReal × BitVec 32) :
    Cert.ReferenceIdeal.reducer_argmax_f32_i32 (F := Ideal) a b
      = if b.1 < a.1 ∨ (a.1 = b.1 ∧ a.2.toInt < b.2.toInt) then a else b := by
  obtain ⟨a1, a2⟩ := a
  obtain ⟨b1, b2⟩ := b
  have hs : IntOp.cmpi .slt a2 b2 = BitVec.ofBool (decide (a2.toInt < b2.toInt)) := rfl
  simp only [Cert.ReferenceIdeal.reducer_argmax_f32_i32, Ideal.cmpf_def, Ideal.cmp, hs, Scalar.select]
  rcases lt_trichotomy a1 b1 with h | h | h
  · simp [h, h.ne, h.not_gt, IntOp.ori, IntOp.andi]
  · subst h
    by_cases k : a2.toInt < b2.toInt <;> simp [k, IntOp.ori, IntOp.andi]
  · simp [h, h.ne', IntOp.ori, IntOp.andi]

/-- The comparison gives one of the two, and it is at least both. -/
theorem reducer_beats (a b : EReal × BitVec 32) :
    let r := Cert.ReferenceIdeal.reducer_argmax_f32_i32 (F := Ideal) a b
    (r = a ∨ r = b) ∧ Beats r a ∧ Beats r b := by
  intro r
  have hr : r = _ := reducer_eq a b
  by_cases h : b.1 < a.1 ∨ (a.1 = b.1 ∧ a.2.toInt < b.2.toInt)
  · rw [if_pos h] at hr
    rw [hr]
    refine ⟨.inl rfl, .refl _, ?_⟩
    rcases h with h | ⟨h, k⟩
    · exact .inl h
    · exact .inr ⟨h.symm, k.le⟩
  · rw [if_neg h] at hr
    rw [hr]
    refine ⟨.inr rfl, ?_, .refl _⟩
    rw [not_or, not_and, not_lt, not_lt] at h
    rcases h.1.lt_or_eq with k | k
    · exact .inl k
    · exact .inr ⟨k, h.2 k⟩

/-- Folded over a list, the comparison gives one of the pairs met, and it is at least each of them. -/
theorem foldl_beats (L : List (EReal × BitVec 32)) (a : EReal × BitVec 32) :
    let r := L.foldl (Cert.ReferenceIdeal.reducer_argmax_f32_i32 (F := Ideal)) a
    (r = a ∨ r ∈ L) ∧ Beats r a ∧ ∀ q ∈ L, Beats r q := by
  induction L generalizing a with
  | nil => exact ⟨.inl rfl, .refl _, fun q hq => absurd hq List.not_mem_nil⟩
  | cons b L ih =>
    obtain ⟨hm, ha, hL⟩ := ih (Cert.ReferenceIdeal.reducer_argmax_f32_i32 (F := Ideal) a b)
    obtain ⟨km, ka, kb⟩ := reducer_beats a b
    rw [List.foldl_cons]
    refine ⟨?_, ha.trans ka, ?_⟩
    · rcases hm with hm | hm
      · rw [hm]
        rcases km with km | km
        · exact .inl km
        · rw [km]
          exact .inr List.mem_cons_self
      · exact .inr (List.mem_cons_of_mem _ hm)
    · intro q hq
      rcases List.mem_cons.1 hq with hq | hq
      · exact hq ▸ ha.trans kb
      · exact hL q hq

/-- The reference's way: folded over a list that holds the nine (number, row) pairs and no others, the numbers finite
    from below, the comparison ends at the first largest one's row. -/
theorem foldl_eq {f : Fin 9 → EReal} {n : Fin 9} (h : IsFirst f n) (hf : ∀ i, f i ≠ ⊥) (L : List (EReal × BitVec 32))
    (hL : ∀ p, p ∈ L ↔ ∃ i : Fin 9, p = (f i, BitVec.ofNat 32 i.val)) :
    (L.foldl (Cert.ReferenceIdeal.reducer_argmax_f32_i32 (F := Ideal)) (⊥, 0#32)).2 = BitVec.ofNat 32 n.val := by
  obtain ⟨hm, -, hb⟩ := foldl_beats L (⊥, 0#32)
  have hn := hb _ ((hL _).2 ⟨n, rfl⟩)
  rcases hm with hm | hm
  · rw [hm] at hn
    rcases hn with hn | ⟨hn, -⟩
    · exact absurd hn not_lt_bot
    · exact absurd hn (hf n)
  · obtain ⟨i, hi⟩ := (hL _).1 hm
    rw [hi] at hn ⊢
    rcases hn with hn | ⟨hn, hk⟩
    · exact absurd hn (not_lt.2 (h i).1)
    · have k := (h i).2 hn.symm
      rw [toInt_row, toInt_row] at hk
      have : i = n := Fin.ext (le_antisymm (by exact_mod_cast hk) k)
      rw [this]

/-! ## The reference's reductions, read -/

/-- The index half of an arg-max reduction, where its list of pairs is the nine (number, row) pairs. -/
theorem argReduce_eq {s t u : Shape} {axes : List (Fin s.rank)} {f : Fin 9 → EReal} {n : Fin 9} (hn : IsFirst f n)
    (hf : ∀ i, f i ≠ ⊥) (x : FVec Ideal s .f32) (y : IVec s 32) (ix : FVec Ideal u .f32) (iy : IVec u 32)
    (h : s.ReducesTo axes t) (hu : 0 < u.numel) (j : t.Idx) (hx : ix (Shape.Idx.first hu) = (⊥ : EReal))
    (hy : iy (Shape.Idx.first hu) = 0#32)
    (hL : ∀ p : EReal × BitVec 32, p ∈ Host.argReduceFiber x y h j ↔ ∃ i : Fin 9, p = (f i, BitVec.ofNat 32 i.val))
    (g : IVec t 32)
    (hg : g = fun j => (Host.argReduce (Cert.ReferenceIdeal.reducer_argmax_f32_i32 (F := Ideal)) x y ix iy h hu j).2) :
    g j = BitVec.ofNat 32 n.val := by
  subst hg
  show (Host.argReduce (Cert.ReferenceIdeal.reducer_argmax_f32_i32 (F := Ideal)) x y ix iy h hu j).2 = _
  rw [Ideal.argReduce_eq_reduce2, Host.reduce2_eq_foldl_fiber, hx, hy]
  exact foldl_eq hn hf _ hL

/-- A reduction by the larger of two, from minus infinity, over one axis. -/
theorem reduce_max_eq {s t u : Shape} {a : Fin s.rank} (x : FVec Ideal s .f32) (init : FVec Ideal u .f32)
    (h' : s.ReducesTo [a] t) (h : s.Reduces [a] t) (hu : 0 < u.numel) (j : t.Idx)
    (hi : init (Shape.Idx.first hu) = (⊥ : EReal)) :
    Host.reduce FloatOps.maximumf x init h' hu j
      = (Finset.univ : Finset (Fin (s.size a))).fold max (⊥ : EReal) fun k => x (h.lift j k) := by
  rw [Host.reduce_eq_fold_single FloatOps.maximumf x init h' h hu j, hi]
  rfl

/-- The larger of minus infinity and a number is the number. -/
theorem max_bot_at {s : Shape} (x y : FVec Ideal s .f32) (j : s.Idx) (h : x j = (⊥ : EReal)) : maximumf x y j = y j := by
  show max (x j) (y j) = y j
  rw [h]
  exact max_eq_right bot_le

/-- A sum of real numbers is a real number. -/
theorem coe_sum {ι : Type} (S : Finset ι) (f : ι → ℝ) : (∑ i ∈ S, (f i : EReal)) = ((∑ i ∈ S, f i : ℝ) : EReal) := by
  classical
  induction S using Finset.induction_on with
  | empty => rfl
  | insert i S hi ih => rw [Finset.sum_insert hi, Finset.sum_insert hi, ih, EReal.coe_add]

end Cert.Pick

end
-- ==== Proof.Finite.lean ====
/-
  THE PRECONDITION, READ. `finite` of the arguments being 1 says that no entry of the four head arrays that enter a
  score, and of the two routing matrices, is infinite: each entry is a real number (`reals`).
-/
module

public import proofs.«01_k».proof.Pre_finite
public import proofs.«01_k».proof.Proof.Pick
public import Idealize.ShloMosaic.Lib.ReduceAll

@[expose] public section

set_option maxRecDepth 16384

noncomputable section

namespace Cert.Pre_finite.Hand

open Idealize.ShloMosaic Cert.Pre_finite

/-- The shape relations the precondition's operations take. -/
instance facts : Cert.Pre_finite.Facts where
  bcast_S_S4x16x4096x64 := by decide
  reducesTo_S4x16x4096x64_S_d0_1_2_3 := by decide
  h_S_ := by decide
  bcast_S_S9x128 := by decide
  reducesTo_S9x128_S_d0_1 := by decide

/-- An extended real whose absolute value is under infinity is a real number. -/
theorem real_of_abs_lt {x : EReal} (h : Ideal.cmp .olt (max x (-x)) ⊤ = 1#1) : ∃ r : ℝ, x = (r : EReal) := by
  induction x with
  | bot => simp [Ideal.cmp] at h
  | top => simp [Ideal.cmp] at h
  | coe r => exact ⟨r, rfl⟩

/-- Where the precondition holds, every entry that enters a score is a real number. -/
theorem reals (q qp k kp v : FVec Ideal S4x16x4096x64 .f32) (l : FVec Ideal S9 .f32) (wq wk : FVec Ideal S9x128 .f32)
    (h : fn (F := Ideal) q qp k kp v l wq wk = fun _ => 1#1) :
    (∀ i, ∃ r : ℝ, q i = (r : EReal)) ∧ (∀ i, ∃ r : ℝ, qp i = (r : EReal)) ∧ (∀ i, ∃ r : ℝ, k i = (r : EReal))
      ∧ (∀ i, ∃ r : ℝ, kp i = (r : EReal)) ∧ (∀ i, ∃ r : ℝ, wq i = (r : EReal)) ∧ (∀ i, ∃ r : ℝ, wk i = (r : EReal)) := by
  have h0 := congrFun h (Shape.Idx.first Facts.h_S_)
  unfold fn fn_part1 at h0
  dsimp only at h0
  unfold andi at h0
  simp only [IntOp.andi_eq_one] at h0
  haveI : Subsingleton S_.Idx := ⟨fun a b => funext fun i => i.elim0⟩
  have key : ∀ {t : Shape} (x : FVec Ideal t .f32) (hb : S_.BroadcastsInDim t (![] : Fin 0 → Fin t.rank)) (i : t.Idx),
      cmpf .olt (Host.absf x) (broadcastInDim t ![] hb (constant S_ .f32 0x7F800000#32)) i = 1#1 →
        ∃ r : ℝ, x i = (r : EReal) := fun x hb i e =>
    real_of_abs_lt (by
      have e' : Ideal.cmp .olt (max (x i) (-(x i))) (Ideal.ofBits .f32 0x7F800000#32) = 1#1 := e
      rwa [Pick.bits_top] at e')
  obtain ⟨⟨⟨⟨⟨e0, e1⟩, e2⟩, e3⟩, e6⟩, e7⟩ := h0
  exact ⟨fun i => key q _ i (Host.reduce_andi_all _ _ _ _ _ e0 i), fun i => key qp _ i (Host.reduce_andi_all _ _ _ _ _ e1 i),
    fun i => key k _ i (Host.reduce_andi_all _ _ _ _ _ e2 i), fun i => key kp _ i (Host.reduce_andi_all _ _ _ _ _ e3 i),
    fun i => key wq _ i (Host.reduce_andi_all _ _ _ _ _ e6 i), fun i => key wk _ i (Host.reduce_andi_all _ _ _ _ _ e7 i)⟩

end Cert.Pre_finite.Hand

end
-- ==== Proof.HeadOut.lean ====
/-
  WHAT ONE GRID POINT COMPUTES. A grid point holds the five operands of two heads (blocks `[1, 2, 64, 4096]`, the
  sequence last), the two routing matrices and the nine mixing weights. Its body does the same work twice, once for
  each head, and stores each head's `[64, 4096]` result. Here the body's two stores are read back as one function of
  the block index: `blockOut`, whose head `h` is `headOut` of head `h` of every operand.
-/
module

public import proofs.«01_k».proof.Proof.Gen.KernelIdeal.Frame
public import Idealize.ShloMosaic.Lib.Pipeline.Value
public import Idealize.ShloMosaic.Lib.WholeRead
public import Idealize.ShloMosaic.Lib.Pointwise
public import Idealize.ShloMosaic.Lib.Tactic

@[expose] public section

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

/-- Head `h` of a block of two heads. -/
def slab (h : Fin 2) (x : Vec F S1x2x64x4096 .f32) : Vec F S1x1x64x4096 .f32 := fun j => x (ix4 0 h (j 2) (j 3))

/-- One head's result: from the mixing weights `l`, the routing matrices `wq` and `wk` and the head's five operands. -/
def headOut (l : Fin 9 → F .f32) (wq wk : Vec F S9x128 .f32) (q qp k kp v : Vec F S1x1x64x4096 .f32) :
    FVec F S1x1x64x4096 .f32 :=
  k0_pay14 (k0_pay3 k) (k0_pay4 kp) (k0_pay5 v)
    (k0_pay10 (k0_pay1 q) (k0_pay2 qp) (k0_pay6 q qp wq)
      (k0_pay9 (k0_pay6 q qp wq) k0_pay7 (k0_pay8 q qp wq) (l 0) (l 1) (l 2) (l 3) (l 4) (l 5) (l 6) (l 7)) 8#32 (l 8))
    (k0_pay11 (k0_pay3 k) (k0_pay4 kp) wk) (k0_pay12 (k0_pay3 k) (k0_pay4 kp) wk (l 0) (l 1) (l 2)) k0_pay13
    (l 3) (l 4) (l 5) (l 6) (l 7) (l 8)

/-- What the body leaves in the result's block: each head's `headOut`. -/
def blockOut (l : Vec F S1x9 .f32) (wq wk : Vec F S9x128 .f32) (q qp k kp v : Vec F S1x2x64x4096 .f32) :
    Vec F S1x2x64x4096 .f32 := fun j =>
  headOut (fun n => l (ix2 0 n)) wq wk (slab (j 1) q) (slab (j 1) qp) (slab (j 1) k) (slab (j 1) kp) (slab (j 1) v)
    (ix4 0 0 (j 2) (j 3))

/-- Loading the rectangle of head `h` of an operand's block reads that head. -/
theorem read_slab {m : Memref sig .tc .vmem S1x2x64x4096 .f32} (hm : m.IsWhole) (X : Vec F S1x2x64x4096 .f32)
    (h : Fin 2) (off : Fin 4 → Nat) (ho : off = ![0, h.val, 0, 0])
    (inb : ∀ a, off a + (![1, 1, 64, 4096] : Fin 4 → Nat) a ≤ S1x2x64x4096.size a) :
    View.readAt (Elt F) m.view (Rect.unit (s := S1x2x64x4096) off ![1, 1, 64, 4096] inb).toLoadRect (hm.unread X)
      = slab h X := by
  subst ho
  funext j
  rw [Memref.IsWhole.readAt_unread]
  unfold slab
  congr 1
  funext a
  apply Fin.ext
  have h0 : (j 0).val < 1 := (j 0).isLt
  have h1 : (j 1).val < 1 := (j 1).isLt
  match a with
  | ⟨0, _⟩ => show 0 + 1 * (j 0).val = 0; omega
  | ⟨1, _⟩ => show h.val + 1 * (j 1).val = h.val; omega
  | ⟨2, _⟩ => show 0 + 1 * (j 2).val = (j 2).val; omega
  | ⟨3, _⟩ => show 0 + 1 * (j 3).val = (j 3).val; omega

/-- Loading the one element `(0, n)` of the mixing weights reads weight `n`. -/
theorem read_weight {m : Memref sig .tc .smem S1x9 .f32} (hm : m.IsWhole) (X : Vec F S1x9 .f32)
    (n : Fin 9) (off : Fin 2 → Nat) (ho : off = ![0, n.val])
    (inb : ∀ a, off a + (![1, 1] : Fin 2 → Nat) a ≤ S1x9.size a) (i : (Rect.unit (s := S1x9) off ![1, 1] inb).toLoadRect.shape.Idx) :
    View.readAt (Elt F) m.view (Rect.unit (s := S1x9) off ![1, 1] inb).toLoadRect (hm.unread X) i
      = X (ix2 0 n) := by
  subst ho
  rw [Memref.IsWhole.readAt_unread]
  congr 1
  funext a
  apply Fin.ext
  have h0 : (i 0).val < 1 := (i 0).isLt
  have h1 : (i 1).val < 1 := (i 1).isLt
  match a with
  | ⟨0, _⟩ => show 0 + 1 * (i 0).val = 0; omega
  | ⟨1, _⟩ => show n.val + 1 * (i 1).val = n.val; omega

/-- Loading a whole routing matrix reads it. -/
theorem read_matrix {m : Memref sig .tc .vmem S9x128 .f32} (hm : m.IsWhole) (X : Vec F S9x128 .f32)
    (off : Fin 2 → Nat) (ho : off = ![0, 0]) (inb : ∀ a, off a + (![9, 128] : Fin 2 → Nat) a ≤ S9x128.size a) :
    View.readAt (Elt F) m.view (Rect.unit (s := S9x128) off ![9, 128] inb).toLoadRect (hm.unread X) = X := by
  subst ho
  funext j
  rw [Memref.IsWhole.readAt_unread]
  congr 1
  funext a
  apply Fin.ext
  match a with
  | ⟨0, _⟩ => show 0 + 1 * (j 0).val = (j 0).val; omega
  | ⟨1, _⟩ => show 0 + 1 * (j 1).val = (j 1).val; omega

/-- Where the block's head `h` sits in the block: local index `x` is the block's index `(0, h, x 2, x 3)`. -/
theorem emb_head (h : Fin 2) (off : Fin 4 → Nat) (ho : off = ![0, h.val, 0, 0])
    (inb : ∀ a, off a + (![1, 1, 64, 4096] : Fin 4 → Nat) a ≤ S1x2x64x4096.size a) (x : S1x1x64x4096.Idx) :
    (Rect.unit (s := S1x2x64x4096) off ![1, 1, 64, 4096] inb).emb x = ix4 0 h (x 2) (x 3) := by
  subst ho
  funext a
  apply Fin.ext
  have h0 : (x 0).val < 1 := (x 0).isLt
  have h1 : (x 1).val < 1 := (x 1).isLt
  match a with
  | ⟨0, _⟩ => show 0 + 1 * (x 0).val = 0; omega
  | ⟨1, _⟩ => show h.val + 1 * (x 1).val = h.val; omega
  | ⟨2, _⟩ => show 0 + 1 * (x 2).val = (x 2).val; omega
  | ⟨3, _⟩ => show 0 + 1 * (x 3).val = (x 3).val; omega

/-- An index of a one-head block is `(0, 0, x 2, x 3)`. -/
theorem eq_one_head (x : S1x1x64x4096.Idx) : x = ix4 0 0 (x 2) (x 3) := by
  have h0 : (x 0).val < 1 := (x 0).isLt
  have h1 : (x 1).val < 1 := (x 1).isLt
  funext a
  apply Fin.ext
  match a with
  | ⟨0, _⟩ => show (x 0).val = 0; omega
  | ⟨1, _⟩ => show (x 1).val = 0; omega
  | ⟨2, _⟩ => rfl
  | ⟨3, _⟩ => rfl

/-- `blockOut` at the place of head `h`'s local index `x`. -/
theorem blockOut_head (l : Vec F S1x9 .f32) (wq wk : Vec F S9x128 .f32) (q qp k kp v : Vec F S1x2x64x4096 .f32)
    (h : Fin 2) (off : Fin 4 → Nat) (ho : off = ![0, h.val, 0, 0])
    (inb : ∀ a, off a + (![1, 1, 64, 4096] : Fin 4 → Nat) a ≤ S1x2x64x4096.size a) (x : S1x1x64x4096.Idx) :
    blockOut l wq wk q qp k kp v ((Rect.unit (s := S1x2x64x4096) off ![1, 1, 64, 4096] inb).emb x)
      = headOut (fun n => l (ix2 0 n)) wq wk (slab h q) (slab h qp) (slab h k) (slab h kp) (slab h v) x := by
  rw [emb_head h off ho inb x]
  conv_rhs => rw [eq_one_head x]
  rfl

/-- The body's two stores, read back, are `blockOut` of the operands' blocks. -/
theorem out_block (c : Dev nD) (i : grid0.Coords) (arg1 : Memref sig .tc .smem S1x9 .f32) (harg1 : arg1.IsWhole)
    (arg2 : Memref sig .tc .vmem S9x128 .f32) (harg2 : arg2.IsWhole) (arg3 : Memref sig .tc .vmem S9x128 .f32)
    (harg3 : arg3.IsWhole) (arg4 : Memref sig .tc .vmem S1x2x64x4096 .f32) (harg4 : arg4.IsWhole)
    (arg5 : Memref sig .tc .vmem S1x2x64x4096 .f32) (harg5 : arg5.IsWhole)
    (arg6 : Memref sig .tc .vmem S1x2x64x4096 .f32) (harg6 : arg6.IsWhole)
    (arg7 : Memref sig .tc .vmem S1x2x64x4096 .f32) (harg7 : arg7.IsWhole)
    (arg8 : Memref sig .tc .vmem S1x2x64x4096 .f32) (harg8 : arg8.IsWhole)
    (arg9 : Memref sig .tc .vmem S1x2x64x4096 .f32) (harg9 : arg9.IsWhole)
    (x0 : Vec F S1x9 .f32) (x1 x2 : Vec F S9x128 .f32) (x3 x4 x5 x6 x7 : Vec F S1x2x64x4096 .f32) :
    out0_A_8 c i arg1 harg1 arg2 harg2 arg3 harg3 arg4 harg4 arg5 harg5 arg6 harg6 arg7 harg7 arg8 harg8 arg9 harg9
      x0 x1 x2 x3 x4 x5 x6 x7 = blockOut x0 x1 x2 x3 x4 x5 x6 x7 := by
  have hcov := cover0_A_8 c i arg1 harg1 arg2 harg2 arg3 harg3 arg4 harg4 arg5 harg5 arg6 harg6 arg7 harg7 arg8 harg8
    arg9 harg9 x0 x1 x2 x3 x4 x5 x6 x7
  unfold out0_A_8
  rw [View.read_writes_eq_canon _ _ _ hcov]
  funext y
  refine View.canon_apply_of_pieces _ _ ?_ y (hcov y)
  unfold kernelRun0_A
  dsimp only
  intro p hp
  rcases List.mem_cons.mp hp with rfl | hp
  · intro x
    refine Eq.trans ?_ (blockOut_head x0 x1 x2 x3 x4 x5 x6 x7 1 _ rfl
      inb_S1x2x64x4096_S1x1x64x4096_0_1_0_0 x).symm
    dsimp only
    sl_unfold_words
    dsimp only
    rw [read_weight harg1 x0 0 ![0, 0] rfl, read_weight harg1 x0 1 ![0, 1] rfl, read_weight harg1 x0 2 ![0, 2] rfl,
      read_weight harg1 x0 3 ![0, 3] rfl, read_weight harg1 x0 4 ![0, 4] rfl, read_weight harg1 x0 5 ![0, 5] rfl,
      read_weight harg1 x0 6 ![0, 6] rfl, read_weight harg1 x0 7 ![0, 7] rfl, read_weight harg1 x0 8 ![0, 8] rfl,
      read_matrix harg2 x1 ![0, 0] rfl, read_matrix harg3 x2 ![0, 0] rfl,
      read_slab harg4 x3 1 ![0, 1, 0, 0] rfl, read_slab harg5 x4 1 ![0, 1, 0, 0] rfl, read_slab harg6 x5 1 ![0, 1, 0, 0] rfl,
      read_slab harg7 x6 1 ![0, 1, 0, 0] rfl, read_slab harg8 x7 1 ![0, 1, 0, 0] rfl]
    rfl
  · obtain rfl := List.mem_singleton.mp hp
    intro x
    refine Eq.trans ?_ (blockOut_head x0 x1 x2 x3 x4 x5 x6 x7 0 _ rfl
      inb_S1x2x64x4096_S1x1x64x4096_0_0_0_0 x).symm
    dsimp only
    sl_unfold_words
    dsimp only
    rw [read_weight harg1 x0 0 ![0, 0] rfl, read_weight harg1 x0 1 ![0, 1] rfl, read_weight harg1 x0 2 ![0, 2] rfl,
      read_weight harg1 x0 3 ![0, 3] rfl, read_weight harg1 x0 4 ![0, 4] rfl, read_weight harg1 x0 5 ![0, 5] rfl,
      read_weight harg1 x0 6 ![0, 6] rfl, read_weight harg1 x0 7 ![0, 7] rfl, read_weight harg1 x0 8 ![0, 8] rfl,
      read_matrix harg2 x1 ![0, 0] rfl, read_matrix harg3 x2 ![0, 0] rfl,
      read_slab harg4 x3 0 ![0, 0, 0, 0] rfl, read_slab harg5 x4 0 ![0, 0, 0, 0] rfl, read_slab harg6 x5 0 ![0, 0, 0, 0] rfl,
      read_slab harg7 x6 0 ![0, 0, 0, 0] rfl, read_slab harg8 x7 0 ![0, 0, 0, 0] rfl]
    rfl

end Cert.KernelIdeal.Hand
-- ==== Proof.KernelAt.lean ====
/-
  ONE HEAD'S RESULT, READ AT AN INDEX. The index row of a position is the first row that holds the largest of the nine
  scores (`index_at`), the chain of nine selections then picks that row's weight (`chain_eq`), and the head's result is
  two nested sums over the differences (`headOut_at`).
-/
module

public import proofs.«01_k».proof.Proof.Pick
public import proofs.«01_k».proof.Proof.HeadOut

@[expose] public section

set_option maxRecDepth 16384

noncomputable section

namespace Cert.KernelIdeal.Hand

open Idealize.ShloMosaic
open Cert.KernelIdeal Cert.KernelIdeal.Gen

/-- The score of route `n` at position `t`: the routing weights against the two halves of the features. -/
def score (w : Vec Ideal S9x128 .f32) (x xp : FVec Ideal S64x4096 .f32) (t : Fin 4096) (n : Fin 9) : EReal :=
  (∑ d : Fin 64, w (ix2 n ⟨d.val, by omega⟩) * x (ix2 d t)) + ∑ d : Fin 64, w (ix2 n ⟨64 + d.val, by omega⟩) * xp (ix2 d t)

/-- The index row of a position is the first row that holds the largest score. -/
theorem index_at (w : Vec Ideal S9x128 .f32) (x xp : FVec Ideal S64x4096 .f32) (t : Fin 4096) (n : Fin 9)
    (h : Pick.IsFirst (score w x xp t) n) : k0_pay11 x xp w (ix2 0 t) = BitVec.ofNat 32 n.val := by
  pointwise [k0_pay11]
  have e : Finset.univ.fold max (Ideal.ofBits FTy.f32 4286578688#32) (fun i : Fin 9 => score w x xp t i) = score w x xp t n := by
    rw [show Ideal.ofBits FTy.f32 4286578688#32 = ⊥ from Pick.bits_bot]
    exact Pick.fold_max_eq h
  refine Pick.word_eq h _ fun i => ?_
  rw [← e]
  rfl

/-- Nine selections in a row, each by the word being its number. -/
def chain {α : Type} (w : BitVec 32) (l : Fin 9 → α) (z : α) : α :=
  Scalar.select (IntOp.cmpi .eq w 8#32) (l 8) <| Scalar.select (IntOp.cmpi .eq w 7#32) (l 7) <|
  Scalar.select (IntOp.cmpi .eq w 6#32) (l 6) <| Scalar.select (IntOp.cmpi .eq w 5#32) (l 5) <|
  Scalar.select (IntOp.cmpi .eq w 4#32) (l 4) <| Scalar.select (IntOp.cmpi .eq w 3#32) (l 3) <|
  Scalar.select (IntOp.cmpi .eq w 2#32) (l 2) <| Scalar.select (IntOp.cmpi .eq w 1#32) (l 1) <|
  Scalar.select (IntOp.cmpi .eq w 0#32) (l 0) z

/-- The nine selections pick the number the word names. -/
theorem chain_eq {α : Type} (n : Fin 9) (l : Fin 9 → α) (z : α) : chain (BitVec.ofNat 32 n.val) l z = l n := by
  fin_cases n <;> rfl

/-- The query's differences, at a feature and a position. -/
theorem query_at (x xp : FVec Ideal S64x4096 .f32) (w : IVec S1x4096 32) (y : FVec Ideal S1x4096 .f32) (m : IVec S1x4096 1)
    (hm : ∀ t, m (ix2 0 t) = IntOp.cmpi .eq (w (ix2 0 t)) 0#32) (l : Fin 9 → EReal) (d : Fin 64) (t : Fin 4096) :
    k0_pay10 (F := Ideal) x xp w (k0_pay9 w y m (l 0) (l 1) (l 2) (l 3) (l 4) (l 5) (l 6) (l 7)) 8#32 (l 8) (ix2 d t)
      = x (ix2 d t) - chain (w (ix2 0 t)) l (y (ix2 0 t)) * xp (ix2 d t) := by
  have e : k0_pay9 (F := Ideal) w y m (l 0) (l 1) (l 2) (l 3) (l 4) (l 5) (l 6) (l 7) (ix2 0 t)
      = Scalar.select (IntOp.cmpi .eq (w (ix2 0 t)) 7#32) (l 7) (
        Scalar.select (IntOp.cmpi .eq (w (ix2 0 t)) 6#32) (l 6) <| Scalar.select (IntOp.cmpi .eq (w (ix2 0 t)) 5#32) (l 5) <|
        Scalar.select (IntOp.cmpi .eq (w (ix2 0 t)) 4#32) (l 4) <| Scalar.select (IntOp.cmpi .eq (w (ix2 0 t)) 3#32) (l 3) <|
        Scalar.select (IntOp.cmpi .eq (w (ix2 0 t)) 2#32) (l 2) <| Scalar.select (IntOp.cmpi .eq (w (ix2 0 t)) 1#32) (l 1) <|
        Scalar.select (m (ix2 0 t)) (l 0) (y (ix2 0 t))) := rfl
  unfold chain
  rw [← hm, ← e]
  generalize k0_pay9 (F := Ideal) w y m (l 0) (l 1) (l 2) (l 3) (l 4) (l 5) (l 6) (l 7) = u
  pointwise [k0_pay10]

/-- The head's last product, at a feature and a position. -/
theorem product_at (k kp v qd : FVec Ideal S64x4096 .f32) (wk : Vec Ideal S9x128 .f32) (l : Fin 9 → EReal)
    (e : Fin 64) (t : Fin 4096) :
    k0_pay14 (F := Ideal) k kp v qd (k0_pay11 k kp wk) (k0_pay12 k kp wk (l 0) (l 1) (l 2)) k0_pay13
        (l 3) (l 4) (l 5) (l 6) (l 7) (l 8) (ix4 0 0 e t)
      = ∑ d : Fin 64, (∑ u : Fin 4096, v (ix2 e u) * (k (ix2 d u)
          - chain (k0_pay11 k kp wk (ix2 0 u)) l 0 * kp (ix2 d u))) * qd (ix2 d t) := by
  have h12 : ∀ u : Fin 4096, k0_pay12 (F := Ideal) k kp wk (l 0) (l 1) (l 2) (ix2 0 u)
      = Scalar.select (IntOp.cmpi .eq (k0_pay11 k kp wk (ix2 0 u)) 2#32) (l 2)
          (Scalar.select (IntOp.cmpi .eq (k0_pay11 k kp wk (ix2 0 u)) 1#32) (l 1) <|
            Scalar.select (IntOp.cmpi .eq (k0_pay11 k kp wk (ix2 0 u)) 0#32) (l 0) 0) := by
    intro u
    rw [← Ideal.ofBits_zero_f32]
    rfl
  unfold chain
  simp only [← h12]
  generalize k0_pay12 (F := Ideal) k kp wk (l 0) (l 1) (l 2) = y
  generalize k0_pay11 (F := Ideal) k kp wk = w
  pointwise [k0_pay14, k0_pay13]

/-- One head's result: the nested sums over the differences, each position's weight that of its first largest score. -/
theorem headOut_at (l : Fin 9 → EReal) (wq wk : Vec Ideal S9x128 .f32) (q qp k kp v : Vec Ideal S1x1x64x4096 .f32)
    (nq nk : Fin 4096 → Fin 9) (hq : ∀ t, Pick.IsFirst (score wq (k0_pay1 q) (k0_pay2 qp) t) (nq t))
    (hk : ∀ t, Pick.IsFirst (score wk (k0_pay3 k) (k0_pay4 kp) t) (nk t)) (e : Fin 64) (t : Fin 4096) :
    headOut (F := Ideal) l wq wk q qp k kp v (ix4 0 0 e t)
      = ∑ d : Fin 64, (∑ u : Fin 4096, v (ix4 0 0 e u) * (k (ix4 0 0 d u) - l (nk u) * kp (ix4 0 0 d u)))
          * (q (ix4 0 0 d t) - l (nq t) * qp (ix4 0 0 d t)) := by
  have e1 : ∀ d u, k0_pay1 (F := Ideal) q (ix2 d u) = q (ix4 0 0 d u) := by intro d u; pointwise [k0_pay1]
  have e2 : ∀ d u, k0_pay2 (F := Ideal) qp (ix2 d u) = qp (ix4 0 0 d u) := by intro d u; pointwise [k0_pay2]
  have e3 : ∀ d u, k0_pay3 (F := Ideal) k (ix2 d u) = k (ix4 0 0 d u) := by intro d u; pointwise [k0_pay3]
  have e4 : ∀ d u, k0_pay4 (F := Ideal) kp (ix2 d u) = kp (ix4 0 0 d u) := by intro d u; pointwise [k0_pay4]
  have e5 : ∀ d u, k0_pay5 (F := Ideal) v (ix2 d u) = v (ix4 0 0 d u) := by intro d u; pointwise [k0_pay5]
  have e6 : k0_pay6 (F := Ideal) q qp wq = k0_pay11 (k0_pay1 q) (k0_pay2 qp) wq := rfl
  have e8 : ∀ u, k0_pay8 (F := Ideal) q qp wq (ix2 0 u) = IntOp.cmpi .eq (k0_pay6 (F := Ideal) q qp wq (ix2 0 u)) 0#32 :=
    fun u => rfl
  unfold headOut
  rw [product_at]
  refine Finset.sum_congr rfl fun d _ => ?_
  rw [query_at _ _ _ _ _ e8, e6, index_at _ _ _ _ _ (hq t), chain_eq, e1, e2]
  congr 1
  refine Finset.sum_congr rfl fun u _ => ?_
  rw [index_at _ _ _ _ _ (hk u), chain_eq, e3, e4, e5]

end Cert.KernelIdeal.Hand

end
-- ==== Proof.RefRun.lean ====
/-
  The reference program run: its operations in order, and what each of its arrays holds at the end. The result is
  stated by a few named functions of the arguments (the scores, the arg-max, the one-hot vector, the softmax, the
  chosen lambda, the difference, the two products), which the other modules read at an index.
-/
module

public import proofs.«01_k».proof.Proof.Gen.ReferenceIdeal
public import Idealize.ShloMosaic.Lib.StableHlo.Run
public import Idealize.ShloMosaic.Lib.Quiescent

@[expose] public section

noncomputable section

namespace Cert.ReferenceIdeal.Hand

open Cert.ReferenceIdeal Cert.ReferenceIdeal.Gen Idealize.ShloMosaic Idealize.ShloMosaic.TcCoe Idealize.SL.Sem
open Idealize.ShloMosaic.StableHlo

variable {F : FTy → Type} [FloatOps F]

/-! ## The functions the reference is made of -/

/-- Two head arrays side by side: features 0 to 63 are the first one's, 64 to 127 the second one's. -/
def cat (a b : FVec F S4x16x4096x64 .f32) : FVec F S4x16x4096x128 .f32 :=
  concatenate S4x16x4096x128 3 [⟨S4x16x4096x64, a⟩, ⟨S4x16x4096x64, b⟩] concatenates_S4x16x4096x64_S4x16x4096x64_S4x16x4096x128_d3

/-- The scores of a pair of head arrays under the routing weights `w`: nine numbers per position. -/
def scores (x xp : FVec F S4x16x4096x64 .f32) (w : FVec F S9x128 .f32) : FVec F S4x16x4096x9 .f32 :=
  Host.dotGeneral dot_S4x16x4096x128_S9x128_S4x16x4096x9_3_1_012_0_n_n none (cat x xp) w

/-- The value half of the arg-max reduction, over any carried pairs. -/
def argVal (x : FVec F S4x16x4096x9 .f32) (y : IVec S4x16x4096x9 32) (u : FVec F S_ .f32) (v : IVec S_ 32) :
    FVec F S4x16x4096 .f32 :=
  fun j => (Host.argReduce reducer_argmax_f32_i32 x y u v reducesTo_S4x16x4096x9_S4x16x4096_d3 h_S_ j).1

/-- The index half of the arg-max reduction, over any carried pairs. -/
def argIdx (x : FVec F S4x16x4096x9 .f32) (y : IVec S4x16x4096x9 32) (u : FVec F S_ .f32) (v : IVec S_ 32) :
    IVec S4x16x4096 32 :=
  fun j => (Host.argReduce reducer_argmax_f32_i32 x y u v reducesTo_S4x16x4096x9_S4x16x4096_d3 h_S_ j).2

/-- The arg-max of the nine scores at each position. -/
def best (s : FVec F S4x16x4096x9 .f32) : IVec S4x16x4096 32 :=
  argIdx s (iotaInDim S4x16x4096x9 32 3) (constant S_ .f32 0xFF800000#32) (constantI S_ 32 0#32)

/-- The one-hot vector of an index array. -/
def hot (i : IVec S4x16x4096 32) : FVec F S4x16x4096x9 .f32 :=
  uitofp .f32 (cmpi .eq
    (broadcastInDim S4x16x4096x9 ![0, 1, 2, 3] bcast_S4x16x4096x1_S4x16x4096x9_0_1_2_3
      (broadcastInDim S4x16x4096x1 ![0, 1, 2] bcast_S4x16x4096_S4x16x4096x1_0_1_2 i))
    (broadcastInDim S4x16x4096x9 ![0, 1, 2, 3] bcast_S1x1x1x9_S4x16x4096x9_0_1_2_3 (iotaInDim S1x1x1x9 32 3)))

/-- One number per position, repeated over the nine routes. -/
def spread (t : FVec F S4x16x4096 .f32) : FVec F S4x16x4096x9 .f32 :=
  broadcastInDim S4x16x4096x9 ![0, 1, 2, 3] bcast_S4x16x4096x1_S4x16x4096x9_0_1_2_3
    (broadcastInDim S4x16x4096x1 ![0, 1, 2] bcast_S4x16x4096_S4x16x4096x1_0_1_2 t)

/-- The largest score at each position. -/
def top (s : FVec F S4x16x4096x9 .f32) : FVec F S4x16x4096 .f32 :=
  maximumf (broadcastInDim S4x16x4096 ![] bcast_S_S4x16x4096 (constant S_ .f32 0xFF800000#32))
    (Host.reduce FloatOps.maximumf s (constant S_ .f32 0xFF800000#32) reducesTo_S4x16x4096x9_S4x16x4096_d3 h_S_)

/-- The exponentials of the scores less the largest one. -/
def expd (s : FVec F S4x16x4096x9 .f32) : FVec F S4x16x4096x9 .f32 :=
  Host.exp (subf s (spread (top s)))

/-- The softmax of the nine scores at each position. -/
def soft (s : FVec F S4x16x4096x9 .f32) : FVec F S4x16x4096x9 .f32 :=
  Host.divf (expd s) (spread (Host.reduceAdd (expd s) (constant S_ .f32 0x00000000#32)
    reducesTo_S4x16x4096x9_S4x16x4096_d3 h_S_))

/-- The routed lambda of each position: the straight-through route vector against the nine lambdas. -/
def lam (l : FVec F S9 .f32) (s : FVec F S4x16x4096x9 .f32) : FVec F S4x16x4096x1 .f32 :=
  broadcastInDim S4x16x4096x1 ![0, 1, 2] bcast_S4x16x4096_S4x16x4096x1_0_1_2
    (Host.reduceAdd
      (mulf (subf (addf (hot (best s)) (soft s)) (soft s))
        (broadcastInDim S4x16x4096x9 ![0, 1, 2, 3] bcast_S1x1x1x9_S4x16x4096x9_0_1_2_3
          (broadcastInDim S1x1x1x9 ![3] bcast_S9_S1x1x1x9_3 l)))
      (constant S_ .f32 0x00000000#32) reducesTo_S4x16x4096x9_S4x16x4096_d3 h_S_)

/-- A head array less the routed lambda times its previous one. -/
def diff (l : FVec F S9 .f32) (s : FVec F S4x16x4096x9 .f32) (x xp : FVec F S4x16x4096x64 .f32) :
    FVec F S4x16x4096x64 .f32 :=
  subf x (mulf (broadcastInDim S4x16x4096x64 ![0, 1, 2, 3] bcast_S4x16x4096x1_S4x16x4096x64_0_1_2_3 (lam l s)) xp)

/-- The reference's result: the query differences against the summed products of key differences and values. -/
def result (q qp k kp v : FVec F S4x16x4096x64 .f32) (l : FVec F S9 .f32) (wq wk : FVec F S9x128 .f32) :
    FVec F S4x16x4096x64 .f32 :=
  Host.dotGeneral dot_S4x16x4096x64_S4x16x64x64_S4x16x4096x64_3_2_2_3_01_01 none
    (diff l (scores q qp wq) q qp)
    (Host.dotGeneral dot_S4x16x4096x64_S4x16x4096x64_S4x16x64x64_2_2_3_3_01_01 none
      (diff l (scores k kp wk) k kp) v)

/-! ## The operations in order -/

/-- The reference's operations, those of the called functions in their calls' places. -/
abbrev ops : List (HloOp τ sig (Elt F)) :=
  [ binary main_arg0 main_arg1 main_v0 cat,
    binary main_arg2 main_arg3 main_v1 cat,
    binary main_v0 main_arg6 main_v2 ((fun l r => Host.dotGeneral dot_S4x16x4096x128_S9x128_S4x16x4096x9_3_1_012_0_n_n none l r) : (⟨S4x16x4096x128, .f32⟩ : BufTy).Contents (Elt F) → (⟨S9x128, .f32⟩ : BufTy).Contents (Elt F) → (⟨S4x16x4096x9, .f32⟩ : BufTy).Contents (Elt F)),
    binary main_v1 main_arg7 main_v3 ((fun l r => Host.dotGeneral dot_S4x16x4096x128_S9x128_S4x16x4096x9_3_1_012_0_n_n none l r) : (⟨S4x16x4096x128, .f32⟩ : BufTy).Contents (Elt F) → (⟨S9x128, .f32⟩ : BufTy).Contents (Elt F) → (⟨S4x16x4096x9, .f32⟩ : BufTy).Contents (Elt F)),
    TRef.nullary (TRef.of (T := ⟨S4x16x4096x9, .i32⟩) main_call0_v0) (iotaInDim S4x16x4096x9 32 3),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S4x16x4096x9, .f32⟩) main_v2) (TRef.of (T := ⟨S4x16x4096x9, .i32⟩) main_call0_v0) (TRef.of (T := ⟨S_, .f32⟩) main_call0_cst) (TRef.of (T := ⟨S_, .i32⟩) main_call0_c) (TRef.of (T := ⟨S4x16x4096, .f32⟩) main_call0_v1_0) argVal,
    TRef.quaternary (TRef.of (T := ⟨S4x16x4096x9, .f32⟩) main_v2) (TRef.of (T := ⟨S4x16x4096x9, .i32⟩) main_call0_v0) (TRef.of (T := ⟨S_, .f32⟩) main_call0_cst) (TRef.of (T := ⟨S_, .i32⟩) main_call0_c) (TRef.of (T := ⟨S4x16x4096, .i32⟩) main_v4) argIdx,
    TRef.unary (TRef.of (T := ⟨S4x16x4096, .i32⟩) main_v4) (TRef.of (T := ⟨S4x16x4096x1, .i32⟩) main_call1_v0) (broadcastInDim S4x16x4096x1 ![0, 1, 2] bcast_S4x16x4096_S4x16x4096x1_0_1_2),
    TRef.nullary (TRef.of (T := ⟨S1x1x1x9, .i32⟩) main_call1_v1) (iotaInDim S1x1x1x9 32 3),
    TRef.unary (TRef.of (T := ⟨S4x16x4096x1, .i32⟩) main_call1_v0) (TRef.of (T := ⟨S4x16x4096x9, .i32⟩) main_call1_v2) (broadcastInDim S4x16x4096x9 ![0, 1, 2, 3] bcast_S4x16x4096x1_S4x16x4096x9_0_1_2_3),
    TRef.unary (TRef.of (T := ⟨S1x1x1x9, .i32⟩) main_call1_v1) (TRef.of (T := ⟨S4x16x4096x9, .i32⟩) main_call1_v3) (broadcastInDim S4x16x4096x9 ![0, 1, 2, 3] bcast_S1x1x1x9_S4x16x4096x9_0_1_2_3),
    TRef.binary (TRef.of (T := ⟨S4x16x4096x9, .i32⟩) main_call1_v2) (TRef.of (T := ⟨S4x16x4096x9, .i32⟩) main_call1_v3) (TRef.of (T := ⟨S4x16x4096x9, .i1⟩) main_call1_v4) (cmpi .eq),
    TRef.unary (TRef.of (T := ⟨S4x16x4096x9, .i1⟩) main_call1_v4) (TRef.of (T := ⟨S4x16x4096x9, .f32⟩) main_v5) (uitofp .f32),
    nullary main_cst (constant S_ .f32 0xFF800000#32),
    binary main_v2 main_cst main_v6 ((fun x v => Host.reduce FloatOps.maximumf x v reducesTo_S4x16x4096x9_S4x16x4096_d3 h_S_) : (⟨S4x16x4096x9, .f32⟩ : BufTy).Contents (Elt F) → (⟨S_, .f32⟩ : BufTy).Contents (Elt F) → (⟨S4x16x4096, .f32⟩ : BufTy).Contents (Elt F)),
    nullary main_cst_0 (constant S_ .f32 0xFF800000#32),
    unary main_cst_0 main_v7 (broadcastInDim S4x16x4096 ![] bcast_S_S4x16x4096 : (⟨S_, .f32⟩ : BufTy).Contents (Elt F) → (⟨S4x16x4096, .f32⟩ : BufTy).Contents (Elt F)),
    binary main_v7 main_v6 main_v8 (maximumf : (⟨S4x16x4096, .f32⟩ : BufTy).Contents (Elt F) → (⟨S4x16x4096, .f32⟩ : BufTy).Contents (Elt F) → (⟨S4x16x4096, .f32⟩ : BufTy).Contents (Elt F)),
    unary main_v8 main_v9 (broadcastInDim S4x16x4096x1 ![0, 1, 2] bcast_S4x16x4096_S4x16x4096x1_0_1_2 : (⟨S4x16x4096, .f32⟩ : BufTy).Contents (Elt F) → (⟨S4x16x4096x1, .f32⟩ : BufTy).Contents (Elt F)),
    unary main_v9 main_v10 (broadcastInDim S4x16x4096x9 ![0, 1, 2, 3] bcast_S4x16x4096x1_S4x16x4096x9_0_1_2_3 : (⟨S4x16x4096x1, .f32⟩ : BufTy).Contents (Elt F) → (⟨S4x16x4096x9, .f32⟩ : BufTy).Contents (Elt F)),
    binary main_v2 main_v10 main_v11 (subf : (⟨S4x16x4096x9, .f32⟩ : BufTy).Contents (Elt F) → (⟨S4x16x4096x9, .f32⟩ : BufTy).Contents (Elt F) → (⟨S4x16x4096x9, .f32⟩ : BufTy).Contents (Elt F)),
    unary main_v11 main_v12 (Host.exp : (⟨S4x16x4096x9, .f32⟩ : BufTy).Contents (Elt F) → (⟨S4x16x4096x9, .f32⟩ : BufTy).Contents (Elt F)),
    nullary main_cst_1 (constant S_ .f32 0x00000000#32),
    binary main_v12 main_cst_1 main_v13 ((fun x v => Host.reduceAdd x v reducesTo_S4x16x4096x9_S4x16x4096_d3 h_S_) : (⟨S4x16x4096x9, .f32⟩ : BufTy).Contents (Elt F) → (⟨S_, .f32⟩ : BufTy).Contents (Elt F) → (⟨S4x16x4096, .f32⟩ : BufTy).Contents (Elt F)),
    unary main_v13 main_v14 (broadcastInDim S4x16x4096x1 ![0, 1, 2] bcast_S4x16x4096_S4x16x4096x1_0_1_2 : (⟨S4x16x4096, .f32⟩ : BufTy).Contents (Elt F) → (⟨S4x16x4096x1, .f32⟩ : BufTy).Contents (Elt F)),
    unary main_v14 main_v15 (broadcastInDim S4x16x4096x9 ![0, 1, 2, 3] bcast_S4x16x4096x1_S4x16x4096x9_0_1_2_3 : (⟨S4x16x4096x1, .f32⟩ : BufTy).Contents (Elt F) → (⟨S4x16x4096x9, .f32⟩ : BufTy).Contents (Elt F)),
    binary main_v12 main_v15 main_v16 (Host.divf : (⟨S4x16x4096x9, .f32⟩ : BufTy).Contents (Elt F) → (⟨S4x16x4096x9, .f32⟩ : BufTy).Contents (Elt F) → (⟨S4x16x4096x9, .f32⟩ : BufTy).Contents (Elt F)),
    binary main_v5 main_v16 main_v17 (addf : (⟨S4x16x4096x9, .f32⟩ : BufTy).Contents (Elt F) → (⟨S4x16x4096x9, .f32⟩ : BufTy).Contents (Elt F) → (⟨S4x16x4096x9, .f32⟩ : BufTy).Contents (Elt F)),
    binary main_v17 main_v16 main_v18 (subf : (⟨S4x16x4096x9, .f32⟩ : BufTy).Contents (Elt F) → (⟨S4x16x4096x9, .f32⟩ : BufTy).Contents (Elt F) → (⟨S4x16x4096x9, .f32⟩ : BufTy).Contents (Elt F)),
    unary main_arg5 main_v19 (broadcastInDim S1x1x1x9 ![3] bcast_S9_S1x1x1x9_3 : (⟨S9, .f32⟩ : BufTy).Contents (Elt F) → (⟨S1x1x1x9, .f32⟩ : BufTy).Contents (Elt F)),
    unary main_v19 main_v20 (broadcastInDim S4x16x4096x9 ![0, 1, 2, 3] bcast_S1x1x1x9_S4x16x4096x9_0_1_2_3 : (⟨S1x1x1x9, .f32⟩ : BufTy).Contents (Elt F) → (⟨S4x16x4096x9, .f32⟩ : BufTy).Contents (Elt F)),
    binary main_v18 main_v20 main_v21 (mulf : (⟨S4x16x4096x9, .f32⟩ : BufTy).Contents (Elt F) → (⟨S4x16x4096x9, .f32⟩ : BufTy).Contents (Elt F) → (⟨S4x16x4096x9, .f32⟩ : BufTy).Contents (Elt F)),
    nullary main_cst_2 (constant S_ .f32 0x00000000#32),
    binary main_v21 main_cst_2 main_v22 ((fun x v => Host.reduceAdd x v reducesTo_S4x16x4096x9_S4x16x4096_d3 h_S_) : (⟨S4x16x4096x9, .f32⟩ : BufTy).Contents (Elt F) → (⟨S_, .f32⟩ : BufTy).Contents (Elt F) → (⟨S4x16x4096, .f32⟩ : BufTy).Contents (Elt F)),
    unary main_v22 main_v23 (broadcastInDim S4x16x4096x1 ![0, 1, 2] bcast_S4x16x4096_S4x16x4096x1_0_1_2 : (⟨S4x16x4096, .f32⟩ : BufTy).Contents (Elt F) → (⟨S4x16x4096x1, .f32⟩ : BufTy).Contents (Elt F)),
    TRef.nullary (TRef.of (T := ⟨S4x16x4096x9, .i32⟩) main_call2_v0) (iotaInDim S4x16x4096x9 32 3),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S4x16x4096x9, .f32⟩) main_v3) (TRef.of (T := ⟨S4x16x4096x9, .i32⟩) main_call2_v0) (TRef.of (T := ⟨S_, .f32⟩) main_call2_cst) (TRef.of (T := ⟨S_, .i32⟩) main_call2_c) (TRef.of (T := ⟨S4x16x4096, .f32⟩) main_call2_v1_0) argVal,
    TRef.quaternary (TRef.of (T := ⟨S4x16x4096x9, .f32⟩) main_v3) (TRef.of (T := ⟨S4x16x4096x9, .i32⟩) main_call2_v0) (TRef.of (T := ⟨S_, .f32⟩) main_call2_cst) (TRef.of (T := ⟨S_, .i32⟩) main_call2_c) (TRef.of (T := ⟨S4x16x4096, .i32⟩) main_v24) argIdx,
    TRef.unary (TRef.of (T := ⟨S4x16x4096, .i32⟩) main_v24) (TRef.of (T := ⟨S4x16x4096x1, .i32⟩) main_call3_v0) (broadcastInDim S4x16x4096x1 ![0, 1, 2] bcast_S4x16x4096_S4x16x4096x1_0_1_2),
    TRef.nullary (TRef.of (T := ⟨S1x1x1x9, .i32⟩) main_call3_v1) (iotaInDim S1x1x1x9 32 3),
    TRef.unary (TRef.of (T := ⟨S4x16x4096x1, .i32⟩) main_call3_v0) (TRef.of (T := ⟨S4x16x4096x9, .i32⟩) main_call3_v2) (broadcastInDim S4x16x4096x9 ![0, 1, 2, 3] bcast_S4x16x4096x1_S4x16x4096x9_0_1_2_3),
    TRef.unary (TRef.of (T := ⟨S1x1x1x9, .i32⟩) main_call3_v1) (TRef.of (T := ⟨S4x16x4096x9, .i32⟩) main_call3_v3) (broadcastInDim S4x16x4096x9 ![0, 1, 2, 3] bcast_S1x1x1x9_S4x16x4096x9_0_1_2_3),
    TRef.binary (TRef.of (T := ⟨S4x16x4096x9, .i32⟩) main_call3_v2) (TRef.of (T := ⟨S4x16x4096x9, .i32⟩) main_call3_v3) (TRef.of (T := ⟨S4x16x4096x9, .i1⟩) main_call3_v4) (cmpi .eq),
    TRef.unary (TRef.of (T := ⟨S4x16x4096x9, .i1⟩) main_call3_v4) (TRef.of (T := ⟨S4x16x4096x9, .f32⟩) main_v25) (uitofp .f32),
    nullary main_cst_3 (constant S_ .f32 0xFF800000#32),
    binary main_v3 main_cst_3 main_v26 ((fun x v => Host.reduce FloatOps.maximumf x v reducesTo_S4x16x4096x9_S4x16x4096_d3 h_S_) : (⟨S4x16x4096x9, .f32⟩ : BufTy).Contents (Elt F) → (⟨S_, .f32⟩ : BufTy).Contents (Elt F) → (⟨S4x16x4096, .f32⟩ : BufTy).Contents (Elt F)),
    nullary main_cst_4 (constant S_ .f32 0xFF800000#32),
    unary main_cst_4 main_v27 (broadcastInDim S4x16x4096 ![] bcast_S_S4x16x4096 : (⟨S_, .f32⟩ : BufTy).Contents (Elt F) → (⟨S4x16x4096, .f32⟩ : BufTy).Contents (Elt F)),
    binary main_v27 main_v26 main_v28 (maximumf : (⟨S4x16x4096, .f32⟩ : BufTy).Contents (Elt F) → (⟨S4x16x4096, .f32⟩ : BufTy).Contents (Elt F) → (⟨S4x16x4096, .f32⟩ : BufTy).Contents (Elt F)),
    unary main_v28 main_v29 (broadcastInDim S4x16x4096x1 ![0, 1, 2] bcast_S4x16x4096_S4x16x4096x1_0_1_2 : (⟨S4x16x4096, .f32⟩ : BufTy).Contents (Elt F) → (⟨S4x16x4096x1, .f32⟩ : BufTy).Contents (Elt F)),
    unary main_v29 main_v30 (broadcastInDim S4x16x4096x9 ![0, 1, 2, 3] bcast_S4x16x4096x1_S4x16x4096x9_0_1_2_3 : (⟨S4x16x4096x1, .f32⟩ : BufTy).Contents (Elt F) → (⟨S4x16x4096x9, .f32⟩ : BufTy).Contents (Elt F)),
    binary main_v3 main_v30 main_v31 (subf : (⟨S4x16x4096x9, .f32⟩ : BufTy).Contents (Elt F) → (⟨S4x16x4096x9, .f32⟩ : BufTy).Contents (Elt F) → (⟨S4x16x4096x9, .f32⟩ : BufTy).Contents (Elt F)),
    unary main_v31 main_v32 (Host.exp : (⟨S4x16x4096x9, .f32⟩ : BufTy).Contents (Elt F) → (⟨S4x16x4096x9, .f32⟩ : BufTy).Contents (Elt F)),
    nullary main_cst_5 (constant S_ .f32 0x00000000#32),
    binary main_v32 main_cst_5 main_v33 ((fun x v => Host.reduceAdd x v reducesTo_S4x16x4096x9_S4x16x4096_d3 h_S_) : (⟨S4x16x4096x9, .f32⟩ : BufTy).Contents (Elt F) → (⟨S_, .f32⟩ : BufTy).Contents (Elt F) → (⟨S4x16x4096, .f32⟩ : BufTy).Contents (Elt F)),
    unary main_v33 main_v34 (broadcastInDim S4x16x4096x1 ![0, 1, 2] bcast_S4x16x4096_S4x16x4096x1_0_1_2 : (⟨S4x16x4096, .f32⟩ : BufTy).Contents (Elt F) → (⟨S4x16x4096x1, .f32⟩ : BufTy).Contents (Elt F)),
    unary main_v34 main_v35 (broadcastInDim S4x16x4096x9 ![0, 1, 2, 3] bcast_S4x16x4096x1_S4x16x4096x9_0_1_2_3 : (⟨S4x16x4096x1, .f32⟩ : BufTy).Contents (Elt F) → (⟨S4x16x4096x9, .f32⟩ : BufTy).Contents (Elt F)),
    binary main_v32 main_v35 main_v36 (Host.divf : (⟨S4x16x4096x9, .f32⟩ : BufTy).Contents (Elt F) → (⟨S4x16x4096x9, .f32⟩ : BufTy).Contents (Elt F) → (⟨S4x16x4096x9, .f32⟩ : BufTy).Contents (Elt F)),
    binary main_v25 main_v36 main_v37 (addf : (⟨S4x16x4096x9, .f32⟩ : BufTy).Contents (Elt F) → (⟨S4x16x4096x9, .f32⟩ : BufTy).Contents (Elt F) → (⟨S4x16x4096x9, .f32⟩ : BufTy).Contents (Elt F)),
    binary main_v37 main_v36 main_v38 (subf : (⟨S4x16x4096x9, .f32⟩ : BufTy).Contents (Elt F) → (⟨S4x16x4096x9, .f32⟩ : BufTy).Contents (Elt F) → (⟨S4x16x4096x9, .f32⟩ : BufTy).Contents (Elt F)),
    unary main_arg5 main_v39 (broadcastInDim S1x1x1x9 ![3] bcast_S9_S1x1x1x9_3 : (⟨S9, .f32⟩ : BufTy).Contents (Elt F) → (⟨S1x1x1x9, .f32⟩ : BufTy).Contents (Elt F)),
    unary main_v39 main_v40 (broadcastInDim S4x16x4096x9 ![0, 1, 2, 3] bcast_S1x1x1x9_S4x16x4096x9_0_1_2_3 : (⟨S1x1x1x9, .f32⟩ : BufTy).Contents (Elt F) → (⟨S4x16x4096x9, .f32⟩ : BufTy).Contents (Elt F)),
    binary main_v38 main_v40 main_v41 (mulf : (⟨S4x16x4096x9, .f32⟩ : BufTy).Contents (Elt F) → (⟨S4x16x4096x9, .f32⟩ : BufTy).Contents (Elt F) → (⟨S4x16x4096x9, .f32⟩ : BufTy).Contents (Elt F)),
    nullary main_cst_6 (constant S_ .f32 0x00000000#32),
    binary main_v41 main_cst_6 main_v42 ((fun x v => Host.reduceAdd x v reducesTo_S4x16x4096x9_S4x16x4096_d3 h_S_) : (⟨S4x16x4096x9, .f32⟩ : BufTy).Contents (Elt F) → (⟨S_, .f32⟩ : BufTy).Contents (Elt F) → (⟨S4x16x4096, .f32⟩ : BufTy).Contents (Elt F)),
    unary main_v42 main_v43 (broadcastInDim S4x16x4096x1 ![0, 1, 2] bcast_S4x16x4096_S4x16x4096x1_0_1_2 : (⟨S4x16x4096, .f32⟩ : BufTy).Contents (Elt F) → (⟨S4x16x4096x1, .f32⟩ : BufTy).Contents (Elt F)),
    unary main_v23 main_v44 (broadcastInDim S4x16x4096x64 ![0, 1, 2, 3] bcast_S4x16x4096x1_S4x16x4096x64_0_1_2_3 : (⟨S4x16x4096x1, .f32⟩ : BufTy).Contents (Elt F) → (⟨S4x16x4096x64, .f32⟩ : BufTy).Contents (Elt F)),
    binary main_v44 main_arg1 main_v45 (mulf : (⟨S4x16x4096x64, .f32⟩ : BufTy).Contents (Elt F) → (⟨S4x16x4096x64, .f32⟩ : BufTy).Contents (Elt F) → (⟨S4x16x4096x64, .f32⟩ : BufTy).Contents (Elt F)),
    binary main_arg0 main_v45 main_v46 (subf : (⟨S4x16x4096x64, .f32⟩ : BufTy).Contents (Elt F) → (⟨S4x16x4096x64, .f32⟩ : BufTy).Contents (Elt F) → (⟨S4x16x4096x64, .f32⟩ : BufTy).Contents (Elt F)),
    unary main_v43 main_v47 (broadcastInDim S4x16x4096x64 ![0, 1, 2, 3] bcast_S4x16x4096x1_S4x16x4096x64_0_1_2_3 : (⟨S4x16x4096x1, .f32⟩ : BufTy).Contents (Elt F) → (⟨S4x16x4096x64, .f32⟩ : BufTy).Contents (Elt F)),
    binary main_v47 main_arg3 main_v48 (mulf : (⟨S4x16x4096x64, .f32⟩ : BufTy).Contents (Elt F) → (⟨S4x16x4096x64, .f32⟩ : BufTy).Contents (Elt F) → (⟨S4x16x4096x64, .f32⟩ : BufTy).Contents (Elt F)),
    binary main_arg2 main_v48 main_v49 (subf : (⟨S4x16x4096x64, .f32⟩ : BufTy).Contents (Elt F) → (⟨S4x16x4096x64, .f32⟩ : BufTy).Contents (Elt F) → (⟨S4x16x4096x64, .f32⟩ : BufTy).Contents (Elt F)),
    binary main_v49 main_arg4 main_v50 ((fun l r => Host.dotGeneral dot_S4x16x4096x64_S4x16x4096x64_S4x16x64x64_2_2_3_3_01_01 none l r) : (⟨S4x16x4096x64, .f32⟩ : BufTy).Contents (Elt F) → (⟨S4x16x4096x64, .f32⟩ : BufTy).Contents (Elt F) → (⟨S4x16x64x64, .f32⟩ : BufTy).Contents (Elt F)),
    binary main_v46 main_v50 main_v51 ((fun l r => Host.dotGeneral dot_S4x16x4096x64_S4x16x64x64_S4x16x4096x64_3_2_2_3_01_01 none l r) : (⟨S4x16x4096x64, .f32⟩ : BufTy).Contents (Elt F) → (⟨S4x16x64x64, .f32⟩ : BufTy).Contents (Elt F) → (⟨S4x16x4096x64, .f32⟩ : BufTy).Contents (Elt F)) ]

set_option maxRecDepth 8192 in
set_option maxHeartbeats 4000000 in
/-- The program is those operations, one after the other. -/
theorem main_eq (c : Dev nD) : main (F := F) c = seq ops := rfl

/-- No buffer of the program is scoped. -/
theorem scopedRefs_eq : (Finset.univ.filter fun b : Ref sig .tc => b.isScoped) = ∅ := by decide

/-- No semaphore of the program is scoped. -/
theorem scopedSems_eq : (Finset.univ.filter fun sm : SemLoc sig => sm.isScoped .tc) = ∅ := by decide

set_option maxRecDepth 8192 in
/-- Every operation works on buffers of the core. -/
theorem ops_sub : (ops : List (HloOp τ sig (Elt F))).Forall fun op => op.bufs ⊆ tcRefs τ sig :=
  ⟨binary_bufs_sub .., binary_bufs_sub .., binary_bufs_sub .., binary_bufs_sub .., nullary_bufs_sub ..,
   nullary_bufs_sub .., nullary_bufs_sub .., quaternary_bufs_sub .., quaternary_bufs_sub .., unary_bufs_sub ..,
   nullary_bufs_sub .., unary_bufs_sub .., unary_bufs_sub .., binary_bufs_sub .., unary_bufs_sub ..,
   nullary_bufs_sub .., binary_bufs_sub .., nullary_bufs_sub .., unary_bufs_sub .., binary_bufs_sub ..,
   unary_bufs_sub .., unary_bufs_sub .., binary_bufs_sub .., unary_bufs_sub .., nullary_bufs_sub ..,
   binary_bufs_sub .., unary_bufs_sub .., unary_bufs_sub .., binary_bufs_sub .., binary_bufs_sub ..,
   binary_bufs_sub .., unary_bufs_sub .., unary_bufs_sub .., binary_bufs_sub .., nullary_bufs_sub ..,
   binary_bufs_sub .., unary_bufs_sub .., nullary_bufs_sub .., nullary_bufs_sub .., nullary_bufs_sub ..,
   quaternary_bufs_sub .., quaternary_bufs_sub .., unary_bufs_sub .., nullary_bufs_sub .., unary_bufs_sub ..,
   unary_bufs_sub .., binary_bufs_sub .., unary_bufs_sub .., nullary_bufs_sub .., binary_bufs_sub ..,
   nullary_bufs_sub .., unary_bufs_sub .., binary_bufs_sub .., unary_bufs_sub .., unary_bufs_sub ..,
   binary_bufs_sub .., unary_bufs_sub .., nullary_bufs_sub .., binary_bufs_sub .., unary_bufs_sub ..,
   unary_bufs_sub .., binary_bufs_sub .., binary_bufs_sub .., binary_bufs_sub .., unary_bufs_sub ..,
   unary_bufs_sub .., binary_bufs_sub .., nullary_bufs_sub .., binary_bufs_sub .., unary_bufs_sub ..,
   unary_bufs_sub .., binary_bufs_sub .., binary_bufs_sub .., unary_bufs_sub .., binary_bufs_sub ..,
   binary_bufs_sub .., binary_bufs_sub .., binary_bufs_sub ..⟩

variable (m : (ℓ : Loc nD τ sig) → Buf (Elt F) ℓ) (ρ : Dev nD → PrngReg)

/-- What the result array holds at the end, of the arguments' contents. -/
def out (c : Dev nD) : Buf (Elt F) ((c.tc : Thread nD τ).loc main_v51) :=
  result (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

set_option maxRecDepth 8192 in
/-- Every run ends with every buffer at what the operations leave in it. -/
theorem run_all : θ_run defs (onTc (τ := τ) (main (F := F))) ⟨m, fun _ => 0, ρ⟩ fun r =>
    ∀ (d : Dev nD) (b : Ref sig .tc),
      r.2.mem ((d.tc : Thread nD τ).loc b) = after ops (launchContents m d) (Proc.devRef .tc b) :=
  run_seq scopedRefs_eq scopedSems_eq defs main (fun _ => ops) main_eq (fun _ => ops_sub) m ρ

set_option maxRecDepth 8192 in
set_option maxHeartbeats 40000000 in
/-- The operations leave the named result in the result array. -/
theorem after_out (c : Dev nD) : after ops (launchContents m c) (Proc.devRef .tc main_v51) = out m c := by
  simp only [ops, TRef.binary, TRef.nullary, TRef.unary, TRef.quaternary, TRef.toBuf, TRef.ofBuf, cast_eq]
  after_results_simp
  all_goals rfl

set_option maxRecDepth 8192 in
set_option maxHeartbeats 40000000 in
/-- No operation writes an argument. -/
theorem after_args (c : Dev nD) :
    after ops (launchContents m c) (Proc.devRef .tc main_arg0) = m ((c.tc : Thread nD τ).loc main_arg0)
      ∧ after ops (launchContents m c) (Proc.devRef .tc main_arg1) = m ((c.tc : Thread nD τ).loc main_arg1)
      ∧ after ops (launchContents m c) (Proc.devRef .tc main_arg2) = m ((c.tc : Thread nD τ).loc main_arg2)
      ∧ after ops (launchContents m c) (Proc.devRef .tc main_arg3) = m ((c.tc : Thread nD τ).loc main_arg3)
      ∧ after ops (launchContents m c) (Proc.devRef .tc main_arg4) = m ((c.tc : Thread nD τ).loc main_arg4)
      ∧ after ops (launchContents m c) (Proc.devRef .tc main_arg5) = m ((c.tc : Thread nD τ).loc main_arg5)
      ∧ after ops (launchContents m c) (Proc.devRef .tc main_arg6) = m ((c.tc : Thread nD τ).loc main_arg6)
      ∧ after ops (launchContents m c) (Proc.devRef .tc main_arg7) = m ((c.tc : Thread nD τ).loc main_arg7) := by
  simp only [ops, TRef.binary, TRef.nullary, TRef.unary, TRef.quaternary, TRef.toBuf, TRef.ofBuf, cast_eq]
  refine ⟨?_, ?_, ?_, ?_, ?_, ?_, ?_, ?_⟩ <;> after_results_simp <;> rfl

/-- Every run ends with the result array at `out` and the arguments as they were. -/
theorem run : θ_run defs (onTc (τ := τ) (main (F := F))) ⟨m, fun _ => 0, ρ⟩ fun r => ∀ c : Dev nD,
      r.2.mem ((c.tc : Thread nD τ).loc main_v51) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
    obtain ⟨a0, a1, a2, a3, a4, a5, a6, a7⟩ := after_args m c
    exact ⟨(h c _).trans (after_out m c), (h c _).trans a0, (h c _).trans a1, (h c _).trans a2, (h c _).trans a3,
      (h c _).trans a4, (h c _).trans a5, (h c _).trans a6, (h c _).trans a7⟩) (run_all m ρ)

/-- Every run ends with the arguments as they were and every semaphore counter at zero: the program has none. -/
theorem frame : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0 :=
  (θ_run defs _ _).mono (fun r h => ⟨fun c => (h c).2, sem_eq_zero_of_no_sems rfl r.2⟩) (run m ρ)

end Cert.ReferenceIdeal.Hand

end
-- ==== Proof.RefAt.lean ====
/-
  THE REFERENCE, READ AT AN INDEX. Where the nine scores of a position are real numbers, the straight-through route vector
  of the position is the one-hot vector of the first largest score (the softmax that is added is real, so taking it
  away again leaves the one-hot vector), and the routed lambda is the lambda of that row (`lam_at`).
-/
module

public import proofs.«01_k».proof.Proof.Pick
public import proofs.«01_k».proof.Proof.RefRun
public import Idealize.ShloMosaic.Lib.Pointwise

@[expose] public section

set_option maxRecDepth 16384

noncomputable section

namespace Cert.ReferenceIdeal.Hand

open Cert.ReferenceIdeal Cert.ReferenceIdeal.Gen Idealize.ShloMosaic

/-- The nine routes are the last axis. -/
theorem lastAxis : S4x16x4096x9.Reduces [3] S4x16x4096 := by decide

/-- A position with a route put in as the last coordinate. -/
theorem lift_at (b : Fin 4) (h : Fin 16) (t : Fin 4096) (n : Fin 9) : lastAxis.lift (ix3 b h t) n = ix4 b h t n := by
  funext a
  apply Fin.ext
  refine (Shape.Reduces.lift_val lastAxis (ix3 b h t) n a).trans ?_
  match a with
  | ⟨0, _⟩ => rfl
  | ⟨1, _⟩ => rfl
  | ⟨2, _⟩ => rfl
  | ⟨3, _⟩ => rfl

/-- The pairs the arg-max of a position is taken over: the nine scores with their row numbers. -/
theorem mem_fiber (x : FVec Ideal S4x16x4096x9 .f32) (b : Fin 4) (h : Fin 16) (t : Fin 4096) (p : EReal × BitVec 32) :
    p ∈ Host.argReduceFiber x (iotaInDim S4x16x4096x9 32 3) reducesTo_S4x16x4096x9_S4x16x4096_d3 (ix3 b h t)
      ↔ ∃ i : Fin 9, p = (x (ix4 b h t i), BitVec.ofNat 32 i.val) := by
  unfold Host.argReduceFiber
  simp only [List.mem_map, List.mem_filter, List.mem_finRange, true_and, decide_eq_true_eq,
    Shape.ReducesTo.drop_eq_drop reducesTo_S4x16x4096x9_S4x16x4096_d3 lastAxis]
  constructor
  · rintro ⟨n, hn, rfl⟩
    refine ⟨(S4x16x4096x9.rowMajor.symm n) 3, ?_⟩
    have e := lastAxis.lift_drop (S4x16x4096x9.rowMajor.symm n)
    rw [of_decide_eq_true hn] at e
    refine Prod.ext (congrArg x ?_) rfl
    exact (e.symm.trans (lift_at b h t _))
  · rintro ⟨i, rfl⟩
    refine ⟨S4x16x4096x9.rowMajor (ix4 b h t i), ?_, ?_⟩
    · rw [Equiv.symm_apply_apply, ← lift_at]
      exact decide_eq_true (lastAxis.drop_lift _ _)
    · rw [Equiv.symm_apply_apply]
      rfl

section
variable (s : FVec Ideal S4x16x4096x9 .f32) (b : Fin 4) (h : Fin 16) (t : Fin 4096) (n : Fin 9)

/-- The arg-max array, spelt out. -/
theorem best_eq : best s = fun j => (Host.argReduce (reducer_argmax_f32_i32 (F := Ideal)) s (iotaInDim S4x16x4096x9 32 3)
    (constant S_ .f32 0xFF800000#32) (constantI S_ 32 0#32) reducesTo_S4x16x4096x9_S4x16x4096_d3 h_S_ j).2 := by
  delta best argIdx
  with_reducible exact rfl

/-- The arg-max of a position is the first row that holds the largest score. -/
theorem best_at (hn : Pick.IsFirst (fun i => s (ix4 b h t i)) n) (hs : ∀ i, s (ix4 b h t i) ≠ ⊥) :
    best s (ix3 b h t) = BitVec.ofNat 32 n.val := by
  have e1 : constant (F := Ideal) S_ .f32 0xFF800000#32 (Shape.Idx.first h_S_) = (⊥ : EReal) := Pick.bits_bot
  have e2 : constantI S_ 32 0#32 (Shape.Idx.first h_S_) = 0#32 := rfl
  exact Pick.argReduce_eq (f := fun i => s (ix4 b h t i)) (n := n) hn hs s (iotaInDim S4x16x4096x9 32 3)
    (constant (F := Ideal) S_ .f32 0xFF800000#32) (constantI S_ 32 0#32)
    reducesTo_S4x16x4096x9_S4x16x4096_d3 h_S_ (ix3 b h t) e1 e2 (mem_fiber s b h t) (best s) (best_eq s)

/-- The largest score of a position. -/
theorem top_at (hn : Pick.IsFirst (fun i => s (ix4 b h t i)) n) : top s (ix3 b h t) = s (ix4 b h t n) := by
  have e : Host.reduce FloatOps.maximumf s (constant (F := Ideal) S_ .f32 0xFF800000#32)
      reducesTo_S4x16x4096x9_S4x16x4096_d3 h_S_ (ix3 b h t) = s (ix4 b h t n) := by
    refine (Pick.reduce_max_eq s _ reducesTo_S4x16x4096x9_S4x16x4096_d3 lastAxis h_S_ (ix3 b h t) Pick.bits_bot).trans ?_
    refine Eq.trans ?_ (Pick.fold_max_eq hn)
    exact Finset.fold_congr fun i _ => congrArg s (lift_at b h t i)
  unfold top
  rw [Pick.max_bot_at _ _ _ Pick.bits_bot, e]

/-- A position's number, repeated over the routes. -/
theorem spread_at (u : FVec Ideal S4x16x4096 .f32) : spread u (ix4 b h t n) = u (ix3 b h t) := by pointwise [spread]

/-- A sum over the routes of a position. -/
theorem sum_at (x : FVec Ideal S4x16x4096x9 .f32) :
    Host.reduceAdd x (constant (F := Ideal) S_ .f32 0x00000000#32) reducesTo_S4x16x4096x9_S4x16x4096_d3 h_S_ (ix3 b h t)
      = ∑ i : Fin 9, x (ix4 b h t i) := by
  rw [ValueIdx.hostReduceAdd_apply, Ideal.hostReduceAdd_single _ lastAxis]
  show Ideal.ofBits .f32 0x00000000#32 + _ = _
  rw [Ideal.ofBits_zero_f32, zero_add]
  exact Finset.sum_congr rfl fun i _ => congrArg x (lift_at b h t i)

/-- An exponential of a real score is a positive real number. -/
theorem expd_at (f : Fin 9 → ℝ) (hf : ∀ i, s (ix4 b h t i) = (f i : EReal))
    (hn : Pick.IsFirst (fun i => s (ix4 b h t i)) n) (i : Fin 9) :
    expd s (ix4 b h t i) = (Real.exp (f i - f n) : EReal) := by
  show Ideal.exp (s (ix4 b h t i) - spread (top s) (ix4 b h t i)) = _
  rw [spread_at, top_at s b h t n hn, hf, hf, ← EReal.coe_sub, Ideal.exp_coe]

/-- The softmax of real scores is real. -/
theorem soft_at (f : Fin 9 → ℝ) (hf : ∀ i, s (ix4 b h t i) = (f i : EReal))
    (hn : Pick.IsFirst (fun i => s (ix4 b h t i)) n) (i : Fin 9) : ∃ r : ℝ, soft s (ix4 b h t i) = (r : EReal) := by
  have e : (∑ i : Fin 9, expd s (ix4 b h t i)) = ((∑ i : Fin 9, Real.exp (f i - f n) : ℝ) : EReal) := by
    rw [Finset.sum_congr rfl fun i _ => expd_at s b h t n f hf hn i]
    exact Pick.coe_sum _ _
  have p : (0 : ℝ) < ∑ i : Fin 9, Real.exp (f i - f n) :=
    Finset.sum_pos (fun i _ => Real.exp_pos _) ⟨n, Finset.mem_univ _⟩
  refine ⟨Real.exp (f i - f n) * (1 / ∑ i : Fin 9, Real.exp (f i - f n)), ?_⟩
  unfold soft
  show Ideal.div (expd s (ix4 b h t i)) (spread (Host.reduceAdd (expd s) (constant (F := Ideal) S_ .f32 0x00000000#32)
    reducesTo_S4x16x4096x9_S4x16x4096_d3 h_S_) (ix4 b h t i)) = _
  rw [spread_at, sum_at, e, Ideal.div_coe p.ne', expd_at s b h t n f hf hn, ← EReal.coe_mul]

/-- The one-hot vector of an index array, at a route. -/
theorem hot_at (u : IVec S4x16x4096 32) (i : Fin 9) (hu : u (ix3 b h t) = BitVec.ofNat 32 n.val) :
    hot (F := Ideal) u (ix4 b h t i) = if i = n then 1 else 0 := by
  have e : hot (F := Ideal) u (ix4 b h t i)
      = FloatOps.uitofp (F := Ideal) .f32 (IntOp.cmpi .eq (u (ix3 b h t)) (BitVec.ofNat 32 i.val)) := by pointwise [hot]
  rw [e, hu]
  have k : ∀ n i : Fin 9, IntOp.cmpi .eq (BitVec.ofNat 32 n.val) (BitVec.ofNat 32 i.val) = if i = n then 1#1 else 0#1 := by
    decide
  rw [k]
  by_cases hi : i = n
  · rw [if_pos hi, if_pos hi]
    show (((1#1).toNat : ℝ) : EReal) = 1
    simp
  · rw [if_neg hi, if_neg hi]
    show (((0#1).toNat : ℝ) : EReal) = 0
    simp

/-- The routed lambda of a position is the lambda of the first row that holds the largest score. -/
theorem lam_at (l : FVec Ideal S9 .f32) (hs : ∀ i, ∃ r : ℝ, s (ix4 b h t i) = (r : EReal))
    (hn : Pick.IsFirst (fun i => s (ix4 b h t i)) n) : lam l s (ix4 b h t 0) = l (ix1 n) := by
  choose f hf using hs
  have hb := best_at s b h t n hn fun i => by rw [hf]; exact EReal.coe_ne_bot _
  have e : ∀ u : FVec Ideal S4x16x4096 .f32,
      broadcastInDim S4x16x4096x1 ![0, 1, 2] bcast_S4x16x4096_S4x16x4096x1_0_1_2 u (ix4 b h t 0) = u (ix3 b h t) := by
    intro u
    pointwise
  have k : ∀ i, broadcastInDim S4x16x4096x9 ![0, 1, 2, 3] bcast_S1x1x1x9_S4x16x4096x9_0_1_2_3
      (broadcastInDim S1x1x1x9 ![3] bcast_S9_S1x1x1x9_3 l) (ix4 b h t i) = l (ix1 i) := by
    intro i
    pointwise
  unfold lam
  rw [e, sum_at]
  have : ∀ i : Fin 9, mulf (subf (addf (hot (best s)) (soft s)) (soft s))
        (broadcastInDim S4x16x4096x9 ![0, 1, 2, 3] bcast_S1x1x1x9_S4x16x4096x9_0_1_2_3
          (broadcastInDim S1x1x1x9 ![3] bcast_S9_S1x1x1x9_3 l)) (ix4 b h t i) = if i = n then l (ix1 n) else 0 := by
    intro i
    show (hot (best s) (ix4 b h t i) + soft s (ix4 b h t i) - soft s (ix4 b h t i)) * _ = _
    obtain ⟨r, hr⟩ := soft_at s b h t n f hf hn i
    rw [k, hot_at b h t n _ i hb, hr]
    by_cases hi : i = n
    · rw [if_pos hi, if_pos hi, ← EReal.coe_one, ← EReal.coe_add, ← EReal.coe_sub, add_sub_cancel_right, EReal.coe_one,
        one_mul, hi]
    · rw [if_neg hi, if_neg hi, zero_add, ← EReal.coe_sub, sub_self, EReal.coe_zero, zero_mul]
  rw [Finset.sum_congr rfl fun i _ => this i, Finset.sum_ite_eq' Finset.univ n, if_pos (Finset.mem_univ _)]

end

end Cert.ReferenceIdeal.Hand

end
-- ==== Proof.Array.lean ====
/-
  WHAT THE KERNEL'S RESULT ARRAY HOLDS. The host turns each operand `[4, 16, 4096, 64]` into `[4, 16, 64, 4096]`, the
  grid of 32 points works on two heads at a time, and the host turns the result back. Grid point `t` holds heads
  `2 (t mod 8)` and `2 (t mod 8) + 1` of batch `t / 8`; the 32 blocks tile the array, so the whole array is one function of
  its index: head `(b, h)` is `headOut` of head `(b, h)` of every operand (`arrayOut`, `final`), and the program's result
  is that array turned back (`run`).
-/
module

public import proofs.«01_k».proof.Proof.HeadOut
public import Idealize.ShloMosaic.Lib.Pointwise
public import Idealize.ShloMosaic.Lib.Claim

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- An operand with its last two axes swapped: the sequence last. -/
def seqLast (x : Vec F S4x16x4096x64 .f32) : Vec F S4x16x64x4096 .f32 := fun j => x (ix4 (j 0) (j 1) (j 3) (j 2))

/-- Head `h` of batch `b`. -/
def head (b : Fin 4) (h : Fin 16) (x : Vec F S4x16x64x4096 .f32) : Vec F S1x1x64x4096 .f32 :=
  fun i => x (ix4 b h (i 2) (i 3))

/-- The result array, the sequence last: head `(b, h)` is `headOut` of head `(b, h)` of every operand. -/
def arrayOut (l : Vec F S9 .f32) (wq wk : Vec F S9x128 .f32) (q qp k kp v : Vec F S4x16x64x4096 .f32) :
    Vec F S4x16x64x4096 .f32 := fun j =>
  headOut (fun n => l (ix1 n)) wq wk (head (j 0) (j 1) q) (head (j 0) (j 1) qp) (head (j 0) (j 1) k)
    (head (j 0) (j 1) kp) (head (j 0) (j 1) v) (ix4 0 0 (j 2) (j 3))

/-! ## The operands as the grid finds them -/

/-- The host's swap of the last two axes. -/
theorem transpose_seqLast (x : Vec F S4x16x4096x64 .f32) :
    transpose S4x16x64x4096 [0, 1, 3, 2] x transposes_S4x16x4096x64_S4x16x64x4096_0_1_3_2 = seqLast x := by
  funext j
  rw [eq_ix4 j]
  unfold seqLast
  pointwise

/-- The five operands, as the grid finds them. -/
theorem V_operands (c : Dev nD) :
    V m c main_v0 = seqLast (m ((c : Thread nD τ).loc main_arg0))
    ∧ V m c main_v1 = seqLast (m ((c : Thread nD τ).loc main_arg1))
    ∧ V m c main_v2 = seqLast (m ((c : Thread nD τ).loc main_arg2))
    ∧ V m c main_v3 = seqLast (m ((c : Thread nD τ).loc main_arg3))
    ∧ V m c main_v4 = seqLast (m ((c : Thread nD τ).loc main_arg4)) := by
  simp only [← transpose_seqLast]
  unfold V V0
  simp only [hostOps0, List.flatten_cons, List.flatten_nil, List.append_nil]
  refine ⟨?_, ?_, ?_, ?_, ?_⟩ <;> after_results_simp <;> try rfl

/-- The mixing weights, as the grid finds them: one row. -/
theorem V_v5 (c : Dev nD) (n : Fin 9) :
    V m c main_v5 (ix2 0 n) = m ((c : Thread nD τ).loc main_arg5) (ix1 n) := by
  unfold V V0
  simp only [hostOps0, List.flatten_cons, List.flatten_nil, List.append_nil]
  after_results_simp
  pointwise

/-! ## The blocks of a grid point -/

/-- Where the blocks of grid point `t` lie: batch `t / 8`, heads `2 (t mod 8)` and the next, all of the last two axes. -/
theorem place : ∀ t : Fin cfg0.N,
    (win0_3.index t = ![t.val / 8, t.val % 8, 0, 0] ∧ win0_4.index t = ![t.val / 8, t.val % 8, 0, 0]
      ∧ win0_5.index t = ![t.val / 8, t.val % 8, 0, 0] ∧ win0_6.index t = ![t.val / 8, t.val % 8, 0, 0]
      ∧ win0_7.index t = ![t.val / 8, t.val % 8, 0, 0] ∧ win0_8.index t = ![t.val / 8, t.val % 8, 0, 0])
    ∧ win0_0.index t = ![0, 0] ∧ win0_1.index t = ![0, 0] ∧ win0_2.index t = ![0, 0] :=
  (by decide +kernel : ∀ t : Fin grid0.N,
    (win0_3.index t = ![t.val / 8, t.val % 8, 0, 0] ∧ win0_4.index t = ![t.val / 8, t.val % 8, 0, 0]
      ∧ win0_5.index t = ![t.val / 8, t.val % 8, 0, 0] ∧ win0_6.index t = ![t.val / 8, t.val % 8, 0, 0]
      ∧ win0_7.index t = ![t.val / 8, t.val % 8, 0, 0] ∧ win0_8.index t = ![t.val / 8, t.val % 8, 0, 0])
    ∧ win0_0.index t = ![0, 0] ∧ win0_1.index t = ![0, 0] ∧ win0_2.index t = ![0, 0])

/-- The batch of grid point `t`. -/
def batch (t : Fin cfg0.N) : Fin 4 := ⟨t.val / 8, by have := t.isLt; have : cfg0.N = 32 := N_0; omega⟩

/-- The array's head that is head `i` of grid point `t`'s block. -/
def hd (t : Fin cfg0.N) (i : Fin 2) : Fin 16 := ⟨t.val % 8 * 2 + i.val, by have := i.isLt; omega⟩

/-- The part of an array that grid point `t`'s block covers. -/
def blockAt (t : Fin cfg0.N) (x : Vec F S4x16x64x4096 .f32) : Vec F S1x2x64x4096 .f32 :=
  fun j => x (ix4 (batch t) (hd t (j 1)) (j 2) (j 3))

/-- An index of the array whose coordinates are those of `j` in grid point `t`'s block. -/
theorem at_block (t : Fin cfg0.N) {w : Fin 4 → ℕ} (hw : w = ![t.val / 8, t.val % 8, 0, 0]) (j : S1x2x64x4096.Idx)
    (k : S4x16x64x4096.Idx) (h0 : (k 0).val = w 0 * 1 + 1 * (j 0).val) (h1 : (k 1).val = w 1 * 2 + 1 * (j 1).val)
    (h2 : (k 2).val = w 2 * 64 + 1 * (j 2).val) (h3 : (k 3).val = w 3 * 4096 + 1 * (j 3).val) :
    k = ix4 (batch t) (hd t (j 1)) (j 2) (j 3) := by
  subst hw
  have hj : (j 0).val < 1 := (j 0).isLt
  funext a
  apply Fin.ext
  match a with
  | ⟨0, _⟩ => refine h0.trans ?_; show t.val / 8 * 1 + _ = t.val / 8; omega
  | ⟨1, _⟩ => refine h1.trans ?_; show t.val % 8 * 2 + _ = t.val % 8 * 2 + (j 1).val; omega
  | ⟨2, _⟩ => refine h2.trans ?_; show 0 * 64 + _ = (j 2).val; omega
  | ⟨3, _⟩ => refine h3.trans ?_; show 0 * 4096 + _ = (j 3).val; omega

/-- The first operand's block at grid point `t`. -/
theorem blk3 (c : Dev nD) (t : Fin cfg0.N) :
    (iblk m c 3 t : Vec F S1x2x64x4096 .f32) = blockAt t (seqLast (m ((c : Thread nD τ).loc main_arg0))) := by
  rw [← (V_operands m c).1]
  funext j
  exact congrArg (V m c main_v0) (at_block t (place t).1.1 j _ rfl rfl rfl rfl)

/-- The second operand's block at grid point `t`. -/
theorem blk4 (c : Dev nD) (t : Fin cfg0.N) :
    (iblk m c 4 t : Vec F S1x2x64x4096 .f32) = blockAt t (seqLast (m ((c : Thread nD τ).loc main_arg1))) := by
  rw [← (V_operands m c).2.1]
  funext j
  exact congrArg (V m c main_v1) (at_block t (place t).1.2.1 j _ rfl rfl rfl rfl)

/-- The third operand's block at grid point `t`. -/
theorem blk5 (c : Dev nD) (t : Fin cfg0.N) :
    (iblk m c 5 t : Vec F S1x2x64x4096 .f32) = blockAt t (seqLast (m ((c : Thread nD τ).loc main_arg2))) := by
  rw [← (V_operands m c).2.2.1]
  funext j
  exact congrArg (V m c main_v2) (at_block t (place t).1.2.2.1 j _ rfl rfl rfl rfl)

/-- The fourth operand's block at grid point `t`. -/
theorem blk6 (c : Dev nD) (t : Fin cfg0.N) :
    (iblk m c 6 t : Vec F S1x2x64x4096 .f32) = blockAt t (seqLast (m ((c : Thread nD τ).loc main_arg3))) := by
  rw [← (V_operands m c).2.2.2.1]
  funext j
  exact congrArg (V m c main_v3) (at_block t (place t).1.2.2.2.1 j _ rfl rfl rfl rfl)

/-- The fifth operand's block at grid point `t`. -/
theorem blk7 (c : Dev nD) (t : Fin cfg0.N) :
    (iblk m c 7 t : Vec F S1x2x64x4096 .f32) = blockAt t (seqLast (m ((c : Thread nD τ).loc main_arg4))) := by
  rw [← (V_operands m c).2.2.2.2]
  funext j
  exact congrArg (V m c main_v4) (at_block t (place t).1.2.2.2.2.1 j _ rfl rfl rfl rfl)

/-- The mixing weights' block at every grid point: all of them. -/
theorem blk0 (c : Dev nD) (t : Fin cfg0.N) (n : Fin 9) :
    (iblk m c 0 t : Vec F S1x9 .f32) (ix2 0 n) = m ((c : Thread nD τ).loc main_arg5) (ix1 n) := by
  have hi := (place t).2.1
  rw [← V_v5 m c n]
  unfold iblk
  rw [View.read_apply]
  show V m c main_v5 _ = _
  congr 1
  funext a
  apply Fin.ext
  match a with
  | ⟨0, _⟩ => show win0_0.index t 0 * 1 + 1 * 0 = 0
              rw [congrFun hi 0]; rfl
  | ⟨1, _⟩ => show win0_0.index t 1 * 9 + 1 * n.val = n.val
              rw [congrFun hi 1]; show 0 * 9 + _ = _; omega

/-- An index of a routing matrix whose coordinates are those of `j` in the only block. -/
theorem at_matrix {w : Fin 2 → ℕ} (hw : w = ![0, 0]) (j k : S9x128.Idx) (h0 : (k 0).val = w 0 * 9 + 1 * (j 0).val)
    (h1 : (k 1).val = w 1 * 128 + 1 * (j 1).val) : k = j := by
  subst hw
  funext a
  apply Fin.ext
  match a with
  | ⟨0, _⟩ => refine h0.trans ?_; show 0 * 9 + _ = (j 0).val; omega
  | ⟨1, _⟩ => refine h1.trans ?_; show 0 * 128 + _ = (j 1).val; omega

/-- The first routing matrix's block at every grid point: all of it. -/
theorem blk1 (c : Dev nD) (t : Fin cfg0.N) :
    (iblk m c 1 t : Vec F S9x128 .f32) = m ((c : Thread nD τ).loc main_arg6) := by
  rw [← V_main_arg6 m c]
  funext j
  exact congrArg (V m c main_arg6) (at_matrix (place t).2.2.1 j _ rfl rfl)

/-- The second routing matrix's block at every grid point: all of it. -/
theorem blk2 (c : Dev nD) (t : Fin cfg0.N) :
    (iblk m c 2 t : Vec F S9x128 .f32) = m ((c : Thread nD τ).loc main_arg7) := by
  rw [← V_main_arg7 m c]
  funext j
  exact congrArg (V m c main_arg7) (at_matrix (place t).2.2.2 j _ rfl rfl)

/-! ## The result array -/

/-- The result array the launch computes from the arguments on core `c`, the sequence last. -/
abbrev arr (c : Dev nD) : Vec F S4x16x64x4096 .f32 :=
  arrayOut (m ((c : Thread nD τ).loc main_arg5)) (m ((c : Thread nD τ).loc main_arg6)) (m ((c : Thread nD τ).loc main_arg7))
    (seqLast (m ((c : Thread nD τ).loc main_arg0))) (seqLast (m ((c : Thread nD τ).loc main_arg1)))
    (seqLast (m ((c : Thread nD τ).loc main_arg2))) (seqLast (m ((c : Thread nD τ).loc main_arg3)))
    (seqLast (m ((c : Thread nD τ).loc main_arg4)))

/-- What a grid point leaves in the result's block, by the arguments. -/
theorem outs_eq (c : Dev nD) (t : Fin cfg0.N) (j : S1x2x64x4096.Idx) :
    outsAt0 m c t j = arr m c (ix4 (batch t) (hd t (j 1)) (j 2) (j 3)) := by
  unfold outsAt0
  rw [out_block, blk1, blk2, blk3, blk4, blk5, blk6, blk7]
  unfold blockOut
  simp only [blk0]
  rfl

/-- What grid point `t` writes back is its block of the result array. -/
theorem flushed_eq (c : Dev nD) (t : Fin cfg0.N) :
    (dats m 0 c).flushed 8 t = ((cfg0.win 8).blk t).view.read (Elt F) (arr m c) := by
  show (cfg0.win 8).cut (grid0.coords t) ((dats m 0 c).after 8 t) = _
  rw [after0_8]
  funext j
  exact (outs_eq m c t j).trans
    (congrArg (arr m c) (at_block t (place t).1.2.2.2.2.2 j _ rfl rfl rfl rfl)).symm

/-- The 32 blocks cover the result array: batch `b`, head `h` is in the block of grid point `8 b + h / 2`. -/
theorem cover (i : S4x16x64x4096.Idx) :
    ∃ t : Fin cfg0.N, (cfg0.win 8).flush t = true ∧ i ∈ ((cfg0.win 8).blk t).view.set := by
  have h0 : (i 0 : Nat) < 4 := (i 0).isLt
  have h1 : (i 1 : Nat) < 16 := (i 1).isLt
  have h2 : (i 2 : Nat) < 64 := (i 2).isLt
  have h3 : (i 3 : Nat) < 4096 := (i 3).isLt
  have hN : cfg0.N = 32 := N_0
  have ht : (i 0 : Nat) * 8 + (i 1 : Nat) / 2 < cfg0.N := by omega
  refine ⟨⟨(i 0 : Nat) * 8 + (i 1 : Nat) / 2, ht⟩, flush0_8 _, ?_⟩
  have hi := (place ⟨(i 0 : Nat) * 8 + (i 1 : Nat) / 2, ht⟩).1.2.2.2.2.2
  generalize hg : (⟨(i 0 : Nat) * 8 + (i 1 : Nat) / 2, ht⟩ : Fin cfg0.N) = t at hi ⊢
  have hv : t.val = (i 0 : Nat) * 8 + (i 1 : Nat) / 2 := by rw [← hg]
  show i ∈ ((View.whole main_v6).slice (win0_8.rect t)).set
  rw [View.set_slice_whole, Rect.mem_set_unit]
  intro a
  match a with
  | ⟨0, _⟩ => show win0_8.index t 0 * 1 ≤ (i 0 : Nat) ∧ (i 0 : Nat) < win0_8.index t 0 * 1 + 1
              rw [congrFun hi 0]; show t.val / 8 * 1 ≤ _ ∧ _ < t.val / 8 * 1 + 1; omega
  | ⟨1, _⟩ => show win0_8.index t 1 * 2 ≤ (i 1 : Nat) ∧ (i 1 : Nat) < win0_8.index t 1 * 2 + 2
              rw [congrFun hi 1]; show t.val % 8 * 2 ≤ _ ∧ _ < t.val % 8 * 2 + 2; omega
  | ⟨2, _⟩ => show win0_8.index t 2 * 64 ≤ (i 2 : Nat) ∧ (i 2 : Nat) < win0_8.index t 2 * 64 + 64
              rw [congrFun hi 2]; show 0 * 64 ≤ _ ∧ _ < 0 * 64 + 64; omega
  | ⟨3, _⟩ => show win0_8.index t 3 * 4096 ≤ (i 3 : Nat) ∧ (i 3 : Nat) < win0_8.index t 3 * 4096 + 4096
              rw [congrFun hi 3]; show 0 * 4096 ≤ _ ∧ _ < 0 * 4096 + 4096; omega

/-- So the array the grid writes ends holding `arr`. -/
theorem final (c : Dev nD) : (dats m 0 c).arrAt 8 cfg0.N = arr m c :=
  (dats m 0 c).arrAt_eq_of_cover 8 (arr m c) (fun t _ => flushed_eq m c t) cover

/-- The program's result on core `c`: the array turned back, the sequence third. -/
def res (c : Dev nD) : Vec F S4x16x4096x64 .f32 := fun j => arr m c (ix4 (j 0) (j 1) (j 3) (j 2))

/-- After the host's last swap the result buffer holds `res`. -/
theorem tail_v7 (c : Dev nD) :
    Pipeline.afterTail₀ cfgs (dats m) 0 (V0 m) [hostOps1] c main_v7 = res m c := by
  unfold Pipeline.afterTail₀
  simp only [hostOps1, List.flatten_cons, List.flatten_nil, List.append_nil]
  after_results_simp
  have h6 : Pipeline.withArrays spec0 c (V0 m c) (fun w => (dats m 0 c).arrAt w cfg0.N) (Proc.devRef .tc main_v6)
      = arr m c :=
    (Pipeline.withArrays_arr spec0 (by decide) c (V0 m c) (fun w => (dats m 0 c).arrAt w cfg0.N) 8).trans (final m c)
  funext j
  rw [eq_ix4 j]
  unfold res
  rw [← h6]
  pointwise

/-- The run, read: the result buffer at `res`, every argument unchanged. -/
theorem run : θ_run defs (onTc (τ := τ) (main (F := F))) ⟨m, fun _ => 0, ρ⟩ (fun r => ∀ c : Dev nD,
      r.2.mem ((c.tc : Thread nD τ).loc main_v7) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨((h.2 c).2 main_v7 (Pipeline.mem_restRefs_of main_v7 (by decide) (by decide))).trans (tail_v7 m c), h.1 c⟩)
    (θ_run_and (unchanged m ρ) (run_main m ρ))

end Cert.KernelIdeal.Hand
-- ==== Proof.Equal.lean ====
/-
  THE TWO RESULTS ARE ONE. At every index both are the same nested sum over the differences: the scores agree
  (`score_eq`), they are real numbers where the arrays they are made of are (`scores_real`), and so the kernel and the
  reference take the same row's lambda (`equal`).
-/
module

public import proofs.«01_k».proof.Proof.KernelAt
public import proofs.«01_k».proof.Proof.RefAt
public import proofs.«01_k».proof.Proof.Array

@[expose] public section

set_option maxRecDepth 16384

noncomputable section

namespace Cert.Equal

open Idealize.ShloMosaic

/-- A whole operand: batch, head, sequence, feature. -/
abbrev Whole : Type := FVec Ideal Cert.ReferenceIdeal.S4x16x4096x64 .f32
/-- A routing matrix: route, feature of the two head arrays side by side. -/
abbrev Routing : Type := FVec Ideal Cert.ReferenceIdeal.S9x128 .f32

/-- A reference's score: the two halves of the features apart. -/
theorem scores_at (x xp : Whole) (w : Routing) (b : Fin 4) (h : Fin 16) (t : Fin 4096) (n : Fin 9) :
    Cert.ReferenceIdeal.Hand.scores x xp w (ix4 b h t n)
      = (∑ d : Fin 64, x (ix4 b h t d) * w (ix2 n ⟨d.val, by omega⟩))
        + ∑ d : Fin 64, xp (ix4 b h t d) * w (ix2 n ⟨64 + d.val, by omega⟩) := by
  pointwise [Cert.ReferenceIdeal.Hand.scores, Cert.ReferenceIdeal.Hand.cat]

/-- A score of real numbers is a real number. -/
theorem scores_real (x xp : Whole) (w : Routing) (hx : ∀ i, ∃ r : ℝ, x i = (r : EReal)) (hp : ∀ i, ∃ r : ℝ, xp i = (r : EReal))
    (hw : ∀ i, ∃ r : ℝ, w i = (r : EReal)) (b : Fin 4) (h : Fin 16) (t : Fin 4096) (n : Fin 9) :
    ∃ r : ℝ, Cert.ReferenceIdeal.Hand.scores x xp w (ix4 b h t n) = (r : EReal) := by
  choose fx hx using hx
  choose fp hp using hp
  choose fw hw using hw
  refine ⟨(∑ d : Fin 64, fx (ix4 b h t d) * fw (ix2 n ⟨d.val, by omega⟩))
    + ∑ d : Fin 64, fp (ix4 b h t d) * fw (ix2 n ⟨64 + d.val, by omega⟩), ?_⟩
  rw [scores_at, EReal.coe_add, ← Pick.coe_sum, ← Pick.coe_sum]
  congr 1
  · exact Finset.sum_congr rfl fun d _ => by rw [hx, hw, EReal.coe_mul]
  · exact Finset.sum_congr rfl fun d _ => by rw [hp, hw, EReal.coe_mul]

/-- The kernel's score of one head is the reference's. -/
theorem score_eq (x xp : Whole) (w : Routing) (y yp : FVec Ideal Cert.KernelIdeal.S64x4096 .f32) (b : Fin 4) (h : Fin 16)
    (hy : ∀ d t, y (ix2 d t) = x (ix4 b h t d)) (hyp : ∀ d t, yp (ix2 d t) = xp (ix4 b h t d)) (t : Fin 4096) :
    Cert.KernelIdeal.Hand.score w y yp t = fun n => Cert.ReferenceIdeal.Hand.scores x xp w (ix4 b h t n) := by
  funext n
  rw [scores_at]
  unfold Cert.KernelIdeal.Hand.score
  congr 1
  · exact Finset.sum_congr rfl fun d _ => by rw [hy, mul_comm]
  · exact Finset.sum_congr rfl fun d _ => by rw [hyp, mul_comm]

/-- The reference's result at an index: the nested sums over the differences. -/
theorem result_at (q qp k kp v : Whole) (l : FVec Ideal Cert.ReferenceIdeal.S9 .f32) (wq wk : Routing)
    (b : Fin 4) (h : Fin 16) (t : Fin 4096) (e : Fin 64) :
    Cert.ReferenceIdeal.Hand.result q qp k kp v l wq wk (ix4 b h t e)
      = ∑ d : Fin 64, (q (ix4 b h t d)
            - Cert.ReferenceIdeal.Hand.lam l (Cert.ReferenceIdeal.Hand.scores q qp wq) (ix4 b h t 0) * qp (ix4 b h t d))
          * ∑ u : Fin 4096, (k (ix4 b h u d)
              - Cert.ReferenceIdeal.Hand.lam l (Cert.ReferenceIdeal.Hand.scores k kp wk) (ix4 b h u 0) * kp (ix4 b h u d))
            * v (ix4 b h u e) := by
  pointwise [Cert.ReferenceIdeal.Hand.result, Cert.ReferenceIdeal.Hand.diff]

/-- Where the arrays that enter a score are real, the kernel's result array is the reference's. -/
theorem equal (q qp k kp v : Whole) (l : FVec Ideal Cert.ReferenceIdeal.S9 .f32) (wq wk : Routing)
    (hq : ∀ i, ∃ r : ℝ, q i = (r : EReal)) (hqp : ∀ i, ∃ r : ℝ, qp i = (r : EReal)) (hk : ∀ i, ∃ r : ℝ, k i = (r : EReal))
    (hkp : ∀ i, ∃ r : ℝ, kp i = (r : EReal)) (hwq : ∀ i, ∃ r : ℝ, wq i = (r : EReal))
    (hwk : ∀ i, ∃ r : ℝ, wk i = (r : EReal)) (b : Fin 4) (h : Fin 16) (t : Fin 4096) (e : Fin 64) :
    Cert.KernelIdeal.Hand.arrayOut (F := Ideal) l wq wk (Cert.KernelIdeal.Hand.seqLast q) (Cert.KernelIdeal.Hand.seqLast qp)
        (Cert.KernelIdeal.Hand.seqLast k) (Cert.KernelIdeal.Hand.seqLast kp) (Cert.KernelIdeal.Hand.seqLast v) (ix4 b h e t)
      = Cert.ReferenceIdeal.Hand.result q qp k kp v l wq wk (ix4 b h t e) := by
  choose nq hnq using fun u => Pick.exists_isFirst fun n => Cert.ReferenceIdeal.Hand.scores q qp wq (ix4 b h u n)
  choose nk hnk using fun u => Pick.exists_isFirst fun n => Cert.ReferenceIdeal.Hand.scores k kp wk (ix4 b h u n)
  have e1 : ∀ d u, Cert.KernelIdeal.Gen.k0_pay1 (F := Ideal) (Cert.KernelIdeal.Hand.head b h (Cert.KernelIdeal.Hand.seqLast q))
      (ix2 d u) = q (ix4 b h u d) := by
    intro d u
    pointwise [Cert.KernelIdeal.Gen.k0_pay1, Cert.KernelIdeal.Hand.head, Cert.KernelIdeal.Hand.seqLast]
  have e2 : ∀ d u, Cert.KernelIdeal.Gen.k0_pay2 (F := Ideal) (Cert.KernelIdeal.Hand.head b h (Cert.KernelIdeal.Hand.seqLast qp))
      (ix2 d u) = qp (ix4 b h u d) := by
    intro d u
    pointwise [Cert.KernelIdeal.Gen.k0_pay2, Cert.KernelIdeal.Hand.head, Cert.KernelIdeal.Hand.seqLast]
  have e3 : ∀ d u, Cert.KernelIdeal.Gen.k0_pay3 (F := Ideal) (Cert.KernelIdeal.Hand.head b h (Cert.KernelIdeal.Hand.seqLast k))
      (ix2 d u) = k (ix4 b h u d) := by
    intro d u
    pointwise [Cert.KernelIdeal.Gen.k0_pay3, Cert.KernelIdeal.Hand.head, Cert.KernelIdeal.Hand.seqLast]
  have e4 : ∀ d u, Cert.KernelIdeal.Gen.k0_pay4 (F := Ideal) (Cert.KernelIdeal.Hand.head b h (Cert.KernelIdeal.Hand.seqLast kp))
      (ix2 d u) = kp (ix4 b h u d) := by
    intro d u
    pointwise [Cert.KernelIdeal.Gen.k0_pay4, Cert.KernelIdeal.Hand.head, Cert.KernelIdeal.Hand.seqLast]
  have key := Cert.KernelIdeal.Hand.headOut_at (fun n => l (ix1 n)) wq wk
    (Cert.KernelIdeal.Hand.head b h (Cert.KernelIdeal.Hand.seqLast q)) (Cert.KernelIdeal.Hand.head b h (Cert.KernelIdeal.Hand.seqLast qp))
    (Cert.KernelIdeal.Hand.head b h (Cert.KernelIdeal.Hand.seqLast k)) (Cert.KernelIdeal.Hand.head b h (Cert.KernelIdeal.Hand.seqLast kp))
    (Cert.KernelIdeal.Hand.head b h (Cert.KernelIdeal.Hand.seqLast v)) nq nk
    (fun u => by rw [score_eq q qp wq _ _ b h e1 e2 u]; exact hnq u)
    (fun u => by rw [score_eq k kp wk _ _ b h e3 e4 u]; exact hnk u) e t
  refine Eq.trans key ?_
  rw [result_at]
  refine Finset.sum_congr rfl fun d _ => ?_
  rw [mul_comm, Cert.ReferenceIdeal.Hand.lam_at _ b h t (nq t) l (scores_real q qp wq hq hqp hwq b h t) (hnq t)]
  refine congrArg₂ (· * ·) rfl (Finset.sum_congr rfl fun u _ => ?_)
  rw [mul_comm, Cert.ReferenceIdeal.Hand.lam_at _ b h u (nk u) l (scores_real k kp wk hk hkp hwk b h u) (hnk u)]
  rfl

end Cert.Equal

end
-- ==== Proof.lean ====
/-
  THE CERTIFICATE, ASSEMBLED. The frames of the kernel and of its reading over the extended reals are the generated ones,
  the reference's is `RefRun`'s. The value claim joins three facts: what the kernel's result array holds (`Array`), what
  the reference's holds (`RefRun`), and that the two are equal where the arrays that enter a score are real (`Equal`,
  with the precondition read by `Finite`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Finite
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Under the precondition the idealized kernel and the idealized reference end with one and the same array. -/
theorem algebraic : Cert.algebraic_KernelIdeal_ReferenceIdeal_pre_finite := by
  intro m g m' g' hpre hargs
  refine ⟨fun c => Cert.KernelIdeal.Hand.res m c, Cert.KernelIdeal.Hand.run m g, ?_⟩
  refine (θ_run _ _ _).mono (fun r h c => ⟨(h c).1.trans ?_, (h c).2⟩) (Cert.ReferenceIdeal.Hand.run m' g')
  obtain ⟨a0, a1, a2, a3, a4, a5, a6, a7⟩ := hargs c
  obtain ⟨r0, r1, r2, r3, r6, r7⟩ := Cert.Pre_finite.Hand.reals _ _ _ _ _ _ _ _ (hpre c)
  unfold Cert.ReferenceIdeal.Hand.out
  rw [a0, a1, a2, a3, a4, a5, a6, a7]
  funext j
  rw [eq_ix4 j]
  exact (Cert.Equal.equal _ _ _ _ _ _ _ _ r0 r1 r2 r3 r6 r7 _ _ _ _).symm

/-- Everything the certificate states. -/
theorem claim : Cert.Claim :=
  ⟨Cert.Kernel.Gen.facts, Cert.KernelIdeal.Gen.facts, Cert.ReferenceIdeal.Gen.facts, Cert.Pre_finite.Hand.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Hand.frame m ρ,
    fun m ρ _ => Cert.ReferenceIdeal.Hand.frame m ρ, trivial, algebraic⟩

end Cert.Proof

end
